-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1024x8x128 : Shape := ⟨3, ![1024, 8, 128]⟩
abbrev S128x1024 : Shape := ⟨2, ![128, 1024]⟩
abbrev S7x128x1024 : Shape := ⟨3, ![7, 128, 1024]⟩
abbrev S2 : Shape := ⟨1, ![2]⟩
abbrev S7 : Shape := ⟨1, ![7]⟩
abbrev S_ : Shape := ⟨0, ![]⟩
abbrev S1 : Shape := ⟨1, ![1]⟩
abbrev S1x1024x8x128 : Shape := ⟨4, ![1, 1024, 8, 128]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S1x128x1024 : Shape := ⟨3, ![1, 128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x8x128, .f32⟩
  | .local _ .vmem, ⟨5, _⟩ => ⟨S1024x8x128, .f32⟩
  | .local _ .vmem, ⟨6, _⟩ => ⟨S1024x1024, .f32⟩
  | .local _ .vmem, ⟨7, _⟩ => ⟨S1024x1024, .bf16⟩
  | .local _ .vmem, ⟨8, _⟩ => ⟨S128x1024, .bf16⟩
  | .local _ .vmem, ⟨9, _⟩ => ⟨S7x128x1024, .bf16⟩
  | .local _ .vmem, ⟨10, _⟩ => ⟨S7x128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let c0_i32_31 : BitVec 32 := 0#32
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_29 : BitVec 32 := 8#32
  let v32 : BitVec 32 := Scalar.muli v2 c8_i32_29
  let c0_i32_34 : BitVec 32 := 0#32
  ![0, 0, v32.toNat, 0]
def k0_off2 (d0 : Dev nD) (c1_i32_163 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v317 : BitVec 32 := Scalar.addi v2 c1_i32_163
  let c8_i32_164 : BitVec 32 := 8#32
  let v318 : BitVec 32 := Scalar.remsi v317 c8_i32_164
  let c128_i32_165 : BitVec 32 := 128#32
  let v319 : BitVec 32 := Scalar.muli v318 c128_i32_165
  let c0_i32_173 : BitVec 32 := 0#32
  ![v319.toNat, 0]
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_163 : BitVec 32 := 1#32
  let v317 : BitVec 32 := Scalar.addi v2 c1_i32_163
  let c8_i32_164 : BitVec 32 := 8#32
  let v318 : BitVec 32 := Scalar.remsi v317 c8_i32_164
  let c1_i32_169 : BitVec 32 := 1#32
  let v320 : BitVec 32 := Scalar.muli v318 c1_i32_169
  let v321 : BitVec 32 := Scalar.addi c0_i32_170 v320
  v321.toNat
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_174 : BitVec 32 := 2#32
  let v329 : BitVec 32 := Scalar.addi v2 c2_i32_174
  let c8_i32_175 : BitVec 32 := 8#32
  let v330 : BitVec 32 := Scalar.remsi v329 c8_i32_175
  let c1_i32_180 : BitVec 32 := 1#32
  let v332 : BitVec 32 := Scalar.muli v330 c1_i32_180
  let v333 : BitVec 32 := Scalar.addi c0_i32_181 v332
  v333.toNat
def k0_dev10 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_185 : BitVec 32 := 3#32
  let v341 : BitVec 32 := Scalar.addi v2 c3_i32_185
  let c8_i32_186 : BitVec 32 := 8#32
  let v342 : BitVec 32 := Scalar.remsi v341 c8_i32_186
  let c1_i32_191 : BitVec 32 := 1#32
  let v344 : BitVec 32 := Scalar.muli v342 c1_i32_191
  let v345 : BitVec 32 := Scalar.addi c0_i32_192 v344
  v345.toNat
def k0_dev11 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_196 : BitVec 32 := 4#32
  let v353 : BitVec 32 := Scalar.addi v2 c4_i32_196
  let c8_i32_197 : BitVec 32 := 8#32
  let v354 : BitVec 32 := Scalar.remsi v353 c8_i32_197
  let c1_i32_202 : BitVec 32 := 1#32
  let v356 : BitVec 32 := Scalar.muli v354 c1_i32_202
  let v357 : BitVec 32 := Scalar.addi c0_i32_203 v356
  v357.toNat
def k0_dev12 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_207 : BitVec 32 := 5#32
  let v365 : BitVec 32 := Scalar.addi v2 c5_i32_207
  let c8_i32_208 : BitVec 32 := 8#32
  let v366 : BitVec 32 := Scalar.remsi v365 c8_i32_208
  let c1_i32_213 : BitVec 32 := 1#32
  let v368 : BitVec 32 := Scalar.muli v366 c1_i32_213
  let v369 : BitVec 32 := Scalar.addi c0_i32_214 v368
  v369.toNat
def k0_dev13 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_218 : BitVec 32 := 6#32
  let v377 : BitVec 32 := Scalar.addi v2 c6_i32_218
  let c8_i32_219 : BitVec 32 := 8#32
  let v378 : BitVec 32 := Scalar.remsi v377 c8_i32_219
  let c1_i32_224 : BitVec 32 := 1#32
  let v380 : BitVec 32 := Scalar.muli v378 c1_i32_224
  let v381 : BitVec 32 := Scalar.addi c0_i32_225 v380
  v381.toNat
def k0_dev14 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_229 : BitVec 32 := 7#32
  let v389 : BitVec 32 := Scalar.addi v2 c7_i32_229
  let c8_i32_230 : BitVec 32 := 8#32
  let v390 : BitVec 32 := Scalar.remsi v389 c8_i32_230
  let c1_i32_235 : BitVec 32 := 1#32
  let v392 : BitVec 32 := Scalar.muli v390 c1_i32_235
  let v393 : BitVec 32 := Scalar.addi c0_i32_236 v392
  v393.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_240 : BitVec 32 := 128#32
  let v401 : BitVec 32 := Scalar.muli v2 c128_i32_240
  let v402 : Index := Scalar.indexCast v401
  let c0_241 : Index := 0#32
  ![v402.toNat, 0]
def k0_off4 (d0 : Dev nD) : Fin 3 → Nat :=
  let c0_320 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_319 : BitVec 32 := 128#32
  let v481 : BitVec 32 := Scalar.muli v2 c128_i32_319
  let v482 : Index := Scalar.indexCast v481
  let c0_321 : Index := 0#32
  ![0, v482.toNat, 0]
def k0_dev15 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_324 : BitVec 32 := 1#32
  let v490 : BitVec 32 := Scalar.addi v2 c1_i32_324
  let c8_i32_325 : BitVec 32 := 8#32
  let v491 : BitVec 32 := Scalar.remsi v490 c8_i32_325
  let c1_i32_329 : BitVec 32 := 1#32
  let v492 : BitVec 32 := Scalar.muli v491 c1_i32_329
  let v493 : BitVec 32 := Scalar.addi c0_i32_330 v492
  v493.toNat
def k0_dev16 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_333 : BitVec 32 := 2#32
  let v500 : BitVec 32 := Scalar.addi v2 c2_i32_333
  let c8_i32_334 : BitVec 32 := 8#32
  let v501 : BitVec 32 := Scalar.remsi v500 c8_i32_334
  let c1_i32_338 : BitVec 32 := 1#32
  let v502 : BitVec 32 := Scalar.muli v501 c1_i32_338
  let v503 : BitVec 32 := Scalar.addi c0_i32_339 v502
  v503.toNat
def k0_dev17 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_342 : BitVec 32 := 3#32
  let v510 : BitVec 32 := Scalar.addi v2 c3_i32_342
  let c8_i32_343 : BitVec 32 := 8#32
  let v511 : BitVec 32 := Scalar.remsi v510 c8_i32_343
  let c1_i32_347 : BitVec 32 := 1#32
  let v512 : BitVec 32 := Scalar.muli v511 c1_i32_347
  let v513 : BitVec 32 := Scalar.addi c0_i32_348 v512
  v513.toNat
def k0_dev18 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_351 : BitVec 32 := 4#32
  let v520 : BitVec 32 := Scalar.addi v2 c4_i32_351
  let c8_i32_352 : BitVec 32 := 8#32
  let v521 : BitVec 32 := Scalar.remsi v520 c8_i32_352
  let c1_i32_356 : BitVec 32 := 1#32
  let v522 : BitVec 32 := Scalar.muli v521 c1_i32_356
  let v523 : BitVec 32 := Scalar.addi c0_i32_357 v522
  v523.toNat
def k0_dev19 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_360 : BitVec 32 := 5#32
  let v530 : BitVec 32 := Scalar.addi v2 c5_i32_360
  let c8_i32_361 : BitVec 32 := 8#32
  let v531 : BitVec 32 := Scalar.remsi v530 c8_i32_361
  let c1_i32_365 : BitVec 32 := 1#32
  let v532 : BitVec 32 := Scalar.muli v531 c1_i32_365
  let v533 : BitVec 32 := Scalar.addi c0_i32_366 v532
  v533.toNat
def k0_dev20 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_369 : BitVec 32 := 6#32
  let v540 : BitVec 32 := Scalar.addi v2 c6_i32_369
  let c8_i32_370 : BitVec 32 := 8#32
  let v541 : BitVec 32 := Scalar.remsi v540 c8_i32_370
  let c1_i32_374 : BitVec 32 := 1#32
  let v542 : BitVec 32 := Scalar.muli v541 c1_i32_374
  let v543 : BitVec 32 := Scalar.addi c0_i32_375 v542
  v543.toNat
def k0_dev21 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_378 : BitVec 32 := 7#32
  let v550 : BitVec 32 := Scalar.addi v2 c7_i32_378
  let c8_i32_379 : BitVec 32 := 8#32
  let v551 : BitVec 32 := Scalar.remsi v550 c8_i32_379
  let c1_i32_383 : BitVec 32 := 1#32
  let v552 : BitVec 32 := Scalar.muli v551 c1_i32_383
  let v553 : BitVec 32 := Scalar.addi c0_i32_384 v552
  v553.toNat
def k0_off5 (d0 : Dev nD) (c1_i32_395 : BitVec 32) : Fin 3 → Nat :=
  let c0_401 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_394 : BitVec 32 := 8#32
  let v566 : BitVec 32 := Scalar.addi v2 c8_i32_394
  let v567 : BitVec 32 := Scalar.subi v566 c1_i32_395
  let c8_i32_396 : BitVec 32 := 8#32
  let v568 : BitVec 32 := Scalar.remsi v567 c8_i32_396
  let c128_i32_400 : BitVec 32 := 128#32
  let v572 : BitVec 32 := Scalar.muli v568 c128_i32_400
  let v573 : Index := Scalar.indexCast v572
  let c0_402 : Index := 0#32
  ![0, v573.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x64x1024x1024, .f32⟩
  | .hbm, ⟨29, _⟩ => ⟨S_, .f32⟩
  | .hbm, ⟨30, _⟩ => ⟨S1x64x1024x1024, .f32⟩
  | .hbm, ⟨31, _⟩ => ⟨S1x64x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S1x64x1024x1024, .i1⟩
  | .hbm, ⟨36, _⟩ => ⟨S1x64x1024x1024, .f32⟩
  | .hbm, ⟨37, _⟩ => ⟨S1x64x1024x1024, .f32⟩
  | .hbm, ⟨38, _⟩ => ⟨S_, .f32⟩
  | .hbm, ⟨39, _⟩ => ⟨S1x64x1024, .f32⟩
  | .hbm, ⟨40, _⟩ => ⟨S1x64x1024x1, .f32⟩
  | .hbm, ⟨41, _⟩ => ⟨S1x64x1024x1024, .f32⟩
  | .hbm, ⟨42, _⟩ => ⟨S1x64x1024x1024, .f32⟩
  | .hbm, ⟨43, _⟩ => ⟨S1x64x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x64x1024, .f32⟩
  | .hbm, ⟨49, _⟩ => ⟨S1x64x1024x1, .f32⟩
  | .hbm, ⟨50, _⟩ => ⟨S_, .f32⟩
  | .hbm, ⟨51, _⟩ => ⟨S_, .f32⟩
  | .hbm, ⟨52, _⟩ => ⟨S1x64x1024x1, .i1⟩
  | .hbm, ⟨53, _⟩ => ⟨S1x64x1024x1, .f32⟩
  | .hbm, ⟨54, _⟩ => ⟨S1x64x1024x1, .f32⟩
  | .hbm, ⟨55, _⟩ => ⟨S1x64x1024x1024, .f32⟩
  | .hbm, ⟨56, _⟩ => ⟨S1x64x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x64x1024x1024, .i1⟩
  | .hbm, ⟨61, _⟩ => ⟨S1x64x1024x1024, .f32⟩
  | .hbm, ⟨62, _⟩ => ⟨S1x64x1024x1024, .f32⟩
  | .hbm, ⟨63, _⟩ => ⟨S1x64x128x1024, .f32⟩
  | .hbm, ⟨64, _⟩ => ⟨S1x1024x64x128, .f32⟩
  | .hbm, ⟨65, _⟩ => ⟨S1x1024x8192, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Geometry.lean ====
/-
The parts of the kernel's buffers that its transfers move, and who moves them.

Eight devices; every device keeps seven landing slots for the first exchange and seven for the second. Slot `s` of
device `c` is written by device `up c s`, and device `c` writes slot `s` of device `dn c s`; `up · s` and `dn · s` undo each
other. This module names the slots, the row blocks of the partial sum, the semaphores and the cells, and proves that
the slots (the row blocks) are pairwise disjoint and make up their buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Pipeline.ValueKit.Geometry
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover)
open Idealize.ShloMosaic.ValueIdx (ix2 ix3 reshapeEquiv_ix2_1ab)
open Idealize.ShloMosaic.Pipeline (Dat Cfg Window BodyObligation cellOf)

variable {F : FTy → Type} [FloatOps F]

/-! ## The resource algebra: the pipeline library's copy, and the kernel's own cells (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who writes which slot -/

set_option backward.proofsInPublic true in
/-- The device that writes slot `s` of `c`. -/
def up (c : Dev nD) (s : Fin 7) : Dev nD := ⟨(c.val + s.val + 1) % 8, Nat.mod_lt _ (by decide)⟩
set_option backward.proofsInPublic true in
/-- The device whose slot `s` is written by `c`. -/
def dn (c : Dev nD) (s : Fin 7) : Dev nD := ⟨(c.val + (7 - s.val)) % 8, Nat.mod_lt _ (by decide)⟩

theorem up_dn (c : Dev nD) (s : Fin 7) : up (dn c s) s = c := by revert c s; decide
theorem dn_up (c : Dev nD) (s : Fin 7) : dn (up c s) s = c := by revert c s; decide

def turn (s : Fin 7) : Dev nD ≃ Dev nD := ⟨fun c => dn c s, fun c => up c s, fun c => up_dn c s, fun c => dn_up c s⟩

/-- What is asked of every device but one, asked of each by its slot, and of the one. -/
theorem dn_cover (c d : Dev nD) : d = c ∨ ∃ s, d = dn c s := by revert c d; decide

/-! ## The buffers -/

abbrev kM : Memref sig .tc .vmem S1024x8x128 .f32 := Memref.whole cc0_scratch0
abbrev vM : Memref sig .tc .vmem S1024x8x128 .f32 := Memref.whole cc0_scratch1
abbrev accM : Memref sig .tc .vmem S1024x1024 .f32 := Memref.whole cc0_scratch2
abbrev abfM : Memref sig .tc .vmem S1024x1024 .bf16 := Memref.whole cc0_scratch3
abbrev agsM : Memref sig .tc .vmem S128x1024 .bf16 := Memref.whole cc0_scratch4
abbrev rsM : Memref sig .tc .vmem S7x128x1024 .bf16 := Memref.whole cc0_scratch5
abbrev agM : Memref sig .tc .vmem S7x128x1024 .bf16 := Memref.whole cc0_scratch6

theorem inb7 : ∀ s : Fin 7, ∀ a, (![s.val, 0, 0] : Fin 3 → ℕ) a + S1x128x1024.size a ≤ S7x128x1024.size a := by decide
theorem inb8 : ∀ d : Dev nD, ∀ a, (![128 * d.val, 0] : Fin 2 → ℕ) a + S128x1024.size a ≤ S1024x1024.size a := by decide

abbrev slotR (s : Fin 7) : Rect S7x128x1024 := Rect.unit (s := S7x128x1024) ![s.val, 0, 0] S1x128x1024.size (inb7 s)
abbrev rowsR (d : Dev nD) : Rect S1024x1024 := Rect.unit (s := S1024x1024) ![128 * d.val, 0] S128x1024.size (inb8 d)

/-- Slot `s` of the first exchange's landing buffer, of the second's. -/
abbrev rsSlot (s : Fin 7) : Memref sig .tc .vmem S128x1024 .bf16 := (rsM.slice (slotR s) (fun _ => rfl)).squeeze S128x1024 squeezes_S1x128x1024_S128x1024
abbrev agSlot (s : Fin 7) : Memref sig .tc .vmem S128x1024 .bf16 := (agM.slice (slotR s) (fun _ => rfl)).squeeze S128x1024 squeezes_S1x128x1024_S128x1024
/-- The row block of the rounded partial sum that is device `d`'s to total. -/
abbrev chunk (d : Dev nD) : Memref sig .tc .vmem S128x1024 .bf16 := abfM.slice (rowsR d) (fun _ => rfl)

/-- Device `c`'s heads of the keys, of the values, in the operand's array. -/
abbrev kSrc (c : Dev nD) : Memref sig .tc .hbm S1024x8x128 .f32 :=
  ((Memref.whole main_arg2).slice (Rect.unit (s := S1x1024x64x128) (k0_off1 c) S1x1024x8x128.size (k0_off1_inb c)) (fun _ => rfl)).squeeze S1024x8x128 squeezes_S1x1024x8x128_S1024x8x128
abbrev vSrc (c : Dev nD) : Memref sig .tc .hbm S1024x8x128 .f32 :=
  ((Memref.whole main_arg3).slice (Rect.unit (s := S1x1024x64x128) (k0_off1 c) S1x1024x8x128.size (k0_off1_inb c)) (fun _ => rfl)).squeeze S1024x8x128 squeezes_S1x1024x8x128_S1024x8x128

/-! ## The slots make up their buffer, the row blocks theirs -/

theorem rsSlot_set (s : Fin 7) : (rsSlot s).view.set = (slotR s).set :=
  (View.set_reshape (v := (View.whole cc0_scratch5).slice (slotR s)) _).trans (View.set_slice_whole _ _)
theorem agSlot_set (s : Fin 7) : (agSlot s).view.set = (slotR s).set :=
  (View.set_reshape (v := (View.whole cc0_scratch6).slice (slotR s)) _).trans (View.set_slice_whole _ _)
theorem chunk_set (d : Dev nD) : (chunk d).view.set = (rowsR d).set := View.set_slice_whole _ _

theorem slots_disjoint (s s' : Fin 7) (h : s ≠ s') : Disjoint (slotR s).set (slotR s').set :=
  lead_disjoint (s := S7x128x1024) (0 : Fin 3) 1 (fun s : Fin 7 => ![s.val, 0, 0]) S1x128x1024.size inb7 (by decide) rfl s s' h
theorem slots_cover : Finset.univ.biUnion (fun s => (slotR s).set) = Finset.univ :=
  lead_cover (s := S7x128x1024) (0 : Fin 3) 1 (fun s : Fin 7 => ![s.val, 0, 0]) S1x128x1024.size inb7 (by decide) (by decide) rfl (by decide) (by decide)
theorem rows_disjoint (s s' : Dev nD) (h : s ≠ s') : Disjoint (rowsR s).set (rowsR s').set :=
  lead_disjoint (s := S1024x1024) (0 : Fin 2) 128 (fun d : Dev nD => ![128 * d.val, 0]) S128x1024.size inb8 (by decide) rfl s s' h
theorem rows_cover : Finset.univ.biUnion (fun d => (rowsR d).set) = Finset.univ :=
  lead_cover (s := S1024x1024) (0 : Fin 2) 128 (fun d : Dev nD => ![128 * d.val, 0]) S128x1024.size inb8 (by decide) (by decide) rfl (by decide) (by decide)

/-- A slot's element, by its row and column. -/
theorem slot_emb (s : Fin 7) (a : Fin 128) (b : Fin 1024) :
    (slotR s).emb (ix3 (⟨0, Nat.one_pos⟩ : Fin 1) a b) = (ix3 s a b : S7x128x1024.Idx) := by
  refine funext fun x => Fin.ext ?_
  refine (ValueKit.rect_emb_unit_val _ _ _ _ _).trans ?_
  match x with
  | ⟨0, _⟩ => exact Nat.add_zero _
  | ⟨1, _⟩ => exact Nat.zero_add _
  | ⟨2, _⟩ => exact Nat.zero_add _

theorem rsSlot_emb (s : Fin 7) (a : Fin 128) (b : Fin 1024) :
    (rsSlot s).view.emb (ix2 a b : S128x1024.Idx) = (ix3 s a b : S7x128x1024.Idx) := by
  show (slotR s).emb (Shape.reshapeEquiv _ (ix2 a b)) = _
  rw [reshapeEquiv_ix2_1ab]; exact slot_emb s a b
theorem agSlot_emb (s : Fin 7) (a : Fin 128) (b : Fin 1024) :
    (agSlot s).view.emb (ix2 a b : S128x1024.Idx) = (ix3 s a b : S7x128x1024.Idx) := by
  show (slotR s).emb (Shape.reshapeEquiv _ (ix2 a b)) = _
  rw [reshapeEquiv_ix2_1ab]; exact slot_emb s a b

/-! ## The semaphores and the cells -/

abbrev barS : Sem sig := (SemArray.scalar (sig.barrier 0 rfl) : Sems sig S_).sem
set_option backward.proofsInPublic true in
abbrev rsSs (s : Fin 7) : DmaSem sig := (⟨6 + s.val, by omega⟩ : Fin 34)
set_option backward.proofsInPublic true in
abbrev rsRs (s : Fin 7) : DmaSem sig := (⟨13 + s.val, by omega⟩ : Fin 34)
set_option backward.proofsInPublic true in
abbrev agSs (s : Fin 7) : DmaSem sig := (⟨20 + s.val, by omega⟩ : Fin 34)
set_option backward.proofsInPublic true in
abbrev agRs (s : Fin 7) : DmaSem sig := (⟨27 + s.val, by omega⟩ : Fin 34)
abbrev kS : DmaSem sig := (4 : Fin 34)
abbrev vS : DmaSem sig := (5 : Fin 34)

/-- What a transfer semaphore counts: a staging buffer's fill, one of the two local copies, a departure or an arrival of the
    first exchange (`rsS`, `rsR`) or of the second (`agS`, `agR`). -/
inductive Use where
  | stage | k | v | rsS (s : Fin 7) | rsR (s : Fin 7) | agS (s : Fin 7) | agR (s : Fin 7)
  deriving DecidableEq

def slotOfSem (n : Fin 34) : Fin 7 := ⟨(n.val - 6) % 7, Nat.mod_lt _ (by decide)⟩
def useOf (n : DmaSem sig) : Use :=
  if n.val < 4 then .stage else if n.val = 4 then .k else if n.val = 5 then .v
  else if n.val < 13 then .rsS (slotOfSem n) else if n.val < 20 then .rsR (slotOfSem n)
  else if n.val < 27 then .agS (slotOfSem n) else .agR (slotOfSem n)

theorem use_k : useOf kS = .k := by decide
theorem use_v : useOf vS = .v := by decide
theorem use_rsS (s : Fin 7) : useOf (rsSs s) = .rsS s := by revert s; decide
theorem use_rsR (s : Fin 7) : useOf (rsRs s) = .rsR s := by revert s; decide
theorem use_agS (s : Fin 7) : useOf (agSs s) = .agS s := by revert s; decide
theorem use_agR (s : Fin 7) : useOf (agRs s) = .agR s := by revert s; decide

abbrev barCell (c : Dev nD) : GSem nD τ sig := ((c : Thread nD τ), .reg barS)
abbrev dmaCell (c : Dev nD) (n : DmaSem sig) : GSem nD τ sig := ((c : Thread nD τ), .dma n)

/-- The kernel's own cells in one order: the barrier, then its transfer semaphores 4 to 33. -/
def csem (k : Fin 31) : SemLoc sig := if h : k.val = 0 then .reg barS else .dma (⟨k.val + 3, by omega⟩ : Fin 34)
abbrev kcell (ck : Dev nD × Fin 31) : GSem nD τ sig := ((ck.1 : Thread nD τ), csem ck.2)
/-- The place of a transfer semaphore in that order. -/
def pos (n : DmaSem sig) : Fin 31 := ⟨n.val - 3, by have := n.isLt; change n.val < 34 at this; omega⟩
theorem csem_zero : csem 0 = .reg barS := rfl
theorem csem_pos : ∀ n : DmaSem sig, 4 ≤ n.val → csem (pos n) = .dma n := by decide
theorem csem_injective : Function.Injective csem := by decide

end Cert.KernelIdealProof

end
-- ==== Proof.Contents.lean ====
/-
What every buffer of the kernel holds, device by device, as a function of the launch memory.

The chain follows the program: the staged operands, the device's eight heads of the keys and values, its partial sum
over those heads, the row blocks exchanged, the total of its own row block, and the result put together from the eight
devices' totals. The functions of the float operations are the generated payloads of the kernel's own stores.
-/
module

public import proofs.«01_k».proof.Proof.Geometry

@[expose] public section

noncomputable section

namespace Cert.KernelIdealProof

open Cert.KernelIdeal Cert.KernelIdeal.Gen

open Idealize.ShloMosaic
open Idealize.ShloMosaic.TcCoe
open Idealize.ShloMosaic.ValueIdx (ix2 ix3 eq_ix2 eq_ix3)
open Idealize.ShloMosaic.Pipeline (Dat Cfg Window BodyObligation cellOf)

variable {F : FTy → Type} [FloatOps F]

variable (m : (ℓ : Loc nD τ sig) → Buf (Elt F) ℓ)

/-- The memory at launch: arbitrary contents, every counter zero, arbitrary generator registers. -/
def s₀ (ρ : Dev nD → PrngReg) : MemSt nD τ sig (Elt F) := ⟨m, fun _ => 0, ρ⟩

/-! ## Operands -/

def xstg (c : Dev nD) : (cc0_stg0_0 : Ref sig .tc).ty.Contents (Elt F) :=
  (win0_0.blk (0 : Fin 1)).view.read (Elt F) (m ((c : Thread nD τ).loc main_arg0))
def wqstg (c : Dev nD) : (cc0_stg1_0 : Ref sig .tc).ty.Contents (Elt F) :=
  (win0_1.blk (0 : Fin 1)).view.read (Elt F) (m ((c : Thread nD τ).loc main_arg1))
def wostg (c : Dev nD) : (cc0_stg2_0 : Ref sig .tc).ty.Contents (Elt F) :=
  (win0_2.blk (0 : Fin 1)).view.read (Elt F) (m ((c : Thread nD τ).loc main_arg4))

/-- The device's heads of the keys, of the values. -/
def kat (c : Dev nD) : (cc0_scratch0 : Ref sig .tc).ty.Contents (Elt F) :=
  (kSrc c).view.read (Elt F) (m ((c : Thread nD τ).loc main_arg2))
def vat (c : Dev nD) : (cc0_scratch1 : Ref sig .tc).ty.Contents (Elt F) :=
  (vSrc c).view.read (Elt F) (m ((c : Thread nD τ).loc main_arg3))

theorem inbHead : ∀ h : Fin 8, ∀ a, (![0, h.val, 0] : Fin 3 → ℕ) a + S1024x1x128.size a ≤ S1024x8x128.size a := by decide
abbrev headR (h : Fin 8) : Rect S1024x8x128 := Rect.unit (s := S1024x8x128) ![0, h.val, 0] S1024x1x128.size (inbHead h)

/-- Head `h`'s keys, values and rows of the output weight. -/
def kHead (c : Dev nD) (h : Fin 8) : Vec F S1024x1x128 .f32 := kM.view.readAt (Elt F) (headR h).toLoadRect (kat m c)
def vHead (c : Dev nD) (h : Fin 8) : Vec F S1024x1x128 .f32 := vM.view.readAt (Elt F) (headR h).toLoadRect (vat m c)
def wHead (c : Dev nD) (h : Fin 8) : Vec F S128x1024 .f32 :=
  (Memref.whole cc0_stg2_0 : Memref sig .tc .vmem S1024x1024 .f32).view.readAt (Elt F) (rowsR h).toLoadRect (wostg m c)

/-! ## The partial sum of the device's heads -/

abbrev rowIx : IVec S1024x1024 32 := iota .tc S1024x1024 32 [0] iota_S1024x1024_d0_w32
abbrev colIx : IVec S1024x1024 32 := iota .tc S1024x1024 32 [1] iota_S1024x1024_d1_w32
abbrev keep : IVec S1024x1024 1 := k0_pay3 rowIx colIx k0_pay2 128#32

def qAll (c : Dev nD) : FVec F S1024x1024 .f32 := k0_pay1 (xstg m c) (wqstg m c)
def sum2 (c : Dev nD) : FVec F S1024x1024 .f32 :=
  k0_pay6 (qAll m c) keep k0_pay4 (k0_pay5 (qAll m c) rowIx colIx k0_pay2 128#32 (kHead m c 0))
    (vHead m c 0) (wHead m c 0) (kHead m c 1) (vHead m c 1) (wHead m c 1)
def sum3 (c : Dev nD) : FVec F S1024x1024 .f32 :=
  k0_pay7 (qAll m c) keep (sum2 m c) (kHead m c 2) (vHead m c 2) (wHead m c 2)
def sum4 (c : Dev nD) : FVec F S1024x1024 .f32 :=
  k0_pay10 keep (sum3 m c) (k0_pay8 (qAll m c) (kHead m c 3)) k0_pay9 (vHead m c 3) (wHead m c 3)
def sum6 (c : Dev nD) : FVec F S1024x1024 .f32 :=
  k0_pay12 (qAll m c) keep (sum4 m c) (k0_pay11 (qAll m c) keep (kHead m c 4))
    (vHead m c 4) (wHead m c 4) (kHead m c 5) (vHead m c 5) (wHead m c 5)
def sum7 (c : Dev nD) : FVec F S1024x1024 .f32 :=
  k0_pay13 (qAll m c) keep (sum6 m c) (kHead m c 6) (vHead m c 6) (wHead m c 6)
/-- The partial sum, and the partial sum rounded. -/
def acc (c : Dev nD) : (cc0_scratch2 : Ref sig .tc).ty.Contents (Elt F) :=
  k0_pay17 keep (sum7 m c) (k0_pay14 (qAll m c) (kHead m c 7)) k0_pay15 (vHead m c 7) (wHead m c 7)
def accR (c : Dev nD) : (cc0_scratch3 : Ref sig .tc).ty.Contents (Elt F) :=
  k0_pay18 keep (sum7 m c) (k0_pay14 (qAll m c) (kHead m c 7)) k0_pay15 (vHead m c 7) (wHead m c 7)

/-! ## The first exchange, and the total of the device's own row block -/

/-- Device `c`'s landing buffer once full: slot `s` holds row block `c` of device `up c s`'s rounded partial sum. -/
def rsBuf (c : Dev nD) : (cc0_scratch5 : Ref sig .tc).ty.Contents (Elt F) :=
  fun i => (chunk c).view.read (Elt F) (accR m (up c (i 0))) (ix2 (i 1) (i 2) : S128x1024.Idx)

def rsRead (c : Dev nD) (s : Fin 7) : Vec F S1x128x1024 .bf16 := rsM.view.readAt (Elt F) (slotR s).toLoadRect (rsBuf m c)
def ownRows (c : Dev nD) : Vec F S128x1024 .f32 :=
  accM.view.readAt (Elt F) (Rect.unit (s := S1024x1024) (k0_off3 c) S128x1024.size (k0_off3_inb c)).toLoadRect (acc m c)
def tot4 (c : Dev nD) : FVec F S128x1024 .f32 := k0_pay20 (k0_pay19 (ownRows m c) (rsRead m c 6)) (rsRead m c 5) (rsRead m c 4)
def tot7 (c : Dev nD) : FVec F S128x1024 .f32 := k0_pay21 (tot4 m c) (rsRead m c 3) (rsRead m c 2) (rsRead m c 1)
/-- The total, and the total rounded. -/
def tot (c : Dev nD) : FVec F S1x128x1024 .f32 := k0_pay23 (tot7 m c) (rsRead m c 0)
def totR (c : Dev nD) : (cc0_scratch4 : Ref sig .tc).ty.Contents (Elt F) := k0_pay24 (tot7 m c) (rsRead m c 0)

/-! ## The second exchange, and the result -/

/-- The second landing buffer once full: slot `s` holds device `up c s`'s rounded total. -/
def agBuf (c : Dev nD) : (cc0_scratch6 : Ref sig .tc).ty.Contents (Elt F) :=
  fun i => totR m (up c (i 0)) (ix2 (i 1) (i 2) : S128x1024.Idx)
def agRead (c : Dev nD) (s : Fin 7) : Vec F S1x128x1024 .bf16 := agM.view.readAt (Elt F) (slotR s).toLoadRect (agBuf m c)

/-- The slot that device `d` writes at `c` (for `d ≠ c`). -/
def slotFrom (c d : Dev nD) : Fin 7 := ⟨((d.val + 7 - c.val) % 8) % 7, Nat.mod_lt _ (by decide)⟩
theorem slotFrom_up (c : Dev nD) (s : Fin 7) : slotFrom c (up c s) = s := by revert c s; decide
theorem up_ne (c : Dev nD) (s : Fin 7) : up c s ≠ c := by revert c s; decide
theorem up_slotFrom (c d : Dev nD) (h : d ≠ c) : up c (slotFrom c d) = d := by revert c d; decide

/-- Row block `d` of device `c`'s result: its own total as it is, another device's as rounded. -/
def rowsOf (c d : Dev nD) : Vec F S1x128x1024 .f32 :=
  if d = c then tot m c else k0_pay25 (agRead m c (slotFrom c d))
theorem rowsOf_self (c : Dev nD) : rowsOf m c c = tot m c := if_pos rfl
theorem rowsOf_up (c : Dev nD) (s : Fin 7) : rowsOf m c (up c s) = k0_pay25 (agRead m c s) := by
  unfold rowsOf; rw [if_neg (up_ne c s), slotFrom_up]

set_option backward.proofsInPublic true in
def blockOf (i : S1x1024x1024.Idx) : Dev nD := ⟨(i 1).val / 128, (Nat.div_lt_iff_lt_mul (by decide)).mpr (i 1).isLt⟩
set_option backward.proofsInPublic true in
def rowIn (i : S1x1024x1024.Idx) : Fin 128 := ⟨(i 1).val % 128, Nat.mod_lt _ (by decide)⟩
def colIn (i : S1x1024x1024.Idx) : Fin 1024 := i 2

def outAt (c : Dev nD) : (cc0_stg3_0 : Ref sig .tc).ty.Contents (Elt F) :=
  fun i => rowsOf m c (blockOf i) (ix3 (⟨0, Nat.one_pos⟩ : Fin 1) (rowIn i) (colIn i) : S1x128x1024.Idx)

/-! ## A transfer's landing is the landing buffer's content -/

theorem rs_land (p : Dev nD) (s : Fin 7) (fd : (cc0_scratch5 : Ref sig .tc).ty.Contents (Elt F)) :
    ∀ i ∈ (rsSlot s).view.set, (rsSlot s).view.write (Elt F) fd ((chunk p).view.read (Elt F) (accR m (up p s))) Finset.univ i = rsBuf m p i := by
  intro i hi
  obtain ⟨y, -, rfl⟩ := Finset.mem_map.mp hi
  rw [eq_ix2 y]
  refine (View.write_emb_of_mem _ _ (Finset.mem_univ _)).trans ?_
  exact (congrArg (rsBuf m p) (rsSlot_emb s (y 0) (y 1))).symm ▸ rfl
theorem ag_land (p : Dev nD) (s : Fin 7) (fd : (cc0_scratch6 : Ref sig .tc).ty.Contents (Elt F)) :
    ∀ i ∈ (agSlot s).view.set, (agSlot s).view.write (Elt F) fd (agsM.view.read (Elt F) (totR m (up p s))) Finset.univ i = agBuf m p i := by
  intro i hi
  obtain ⟨y, -, rfl⟩ := Finset.mem_map.mp hi
  rw [eq_ix2 y]
  refine (View.write_emb_of_mem _ _ (Finset.mem_univ _)).trans ?_
  exact (congrArg (agBuf m p) (agSlot_emb s (y 0) (y 1))).symm ▸ rfl

/-! ## The result, row block by row block -/

abbrev outM : Memref sig .tc .vmem S1x1024x1024 .f32 := Memref.whole cc0_stg3_0

/-- The result buffer is right on the row blocks `l`. -/
def Good (c : Dev nD) (l : List (Dev nD)) (f : (cc0_stg3_0 : Ref sig .tc).ty.Contents (Elt F)) : Prop := ∀ i, blockOf i ∈ l → f i = outAt m c i

theorem good_nil (c : Dev nD) (f) : Good m c [] f := fun i h => absurd h (List.not_mem_nil)
theorem good_all (c : Dev nD) (l : List (Dev nD)) (hl : ∀ d, d ∈ l) (f) (h : Good m c l f) : f = outAt m c := funext fun i => h i (hl _)

theorem good_store (c d : Dev nD) (l : List (Dev nD)) (f : (cc0_stg3_0 : Ref sig .tc).ty.Contents (Elt F)) (h : Good m c l f)
    (off : Fin 3 → ℕ) (hoff : off = ![0, 128 * d.val, 0]) (inb : ∀ a, off a + S1x128x1024.size a ≤ S1x1024x1024.size a)
    (w : Vec F S1x128x1024 .f32) (hw : w = rowsOf m c d) :
    Good m c (d :: l) ((outM.access (Rect.unit (s := S1x1024x1024) off S1x128x1024.size inb) : View sig .tc _ _ _).write (Elt F) f w Finset.univ) := by
  subst hoff hw
  intro i hi
  by_cases hb : blockOf i = d
  · have he : (outM.access (Rect.unit (s := S1x1024x1024) ![0, 128 * d.val, 0] S1x128x1024.size inb) : View sig .tc _ _ _).emb
        (ix3 (⟨0, Nat.one_pos⟩ : Fin 1) (rowIn i) (colIn i) : S1x128x1024.Idx) = i := by
      refine funext fun x => Fin.ext ?_
      refine (ValueKit.view_emb_slice_whole_unit_val _ _ _ _ _ _).trans ?_
      match x with
      | ⟨0, _⟩ => exact ((Nat.lt_one_iff.mp (i 0).isLt).symm ▸ rfl)
      | ⟨1, _⟩ =>
        show 128 * d.val + (i 1).val % 128 = (i 1).val
        have : d.val = (i 1).val / 128 := congrArg Fin.val hb.symm
        rw [this]; exact Nat.div_add_mod _ _
      | ⟨2, _⟩ => exact Nat.zero_add _
    conv_lhs => rw [← he]
    refine (View.write_emb_of_mem _ _ (Finset.mem_univ _)).trans ?_
    unfold outAt; rw [hb]; rfl
  · rw [View.write_of_not_mem]
    · rcases List.mem_cons.mp hi with h' | h'
      · exact absurd h' hb
      · exact h i h'
    · intro hm
      obtain ⟨y, -, hy⟩ := Finset.mem_map.mp hm
      apply hb
      have h1 := congrArg (fun j => (j 1).val) hy
      have h2 := (ValueKit.view_emb_slice_whole_unit_val cc0_stg3_0 ![0, 128 * d.val, 0] S1x128x1024.size inb y 1)
      apply Fin.ext
      show (i 1).val / 128 = d.val
      have h3 : (i 1).val = 128 * d.val + (y 1).val := h1.symm.trans h2
      have h4 : (y 1).val < 128 := (y 1).isLt
      rw [h3]; omega

end Cert.KernelIdealProof

end
-- ==== Proof.Protocol.lean ====
/-
The protocol of the kernel's semaphores, as the library's schedule of rounds: one round on every cell.

A barrier cell has seven duties of one unit, one for each other device: signalling it hands over the signaller's two
landing slots that the signalled device writes. A transfer cell has one duty, the transfer's bytes: a departure's cell
gives the source back, an arrival's cell hands the landed slot, at the content named in `Contents`. This module states the schedule,
its tables, what a device owes at launch and the order in which cells may be waited for.
-/
module

public import proofs.«01_k».proof.Proof.Contents

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## Payloads -/

/-- Memref `M` of device `c` held with share `q` at the content `f`. -/
abbrev pts (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f
abbrev ptsAny (c : Dev nD) {sp : Space} {s : Shape} {e : EltTy} (M : Memref sig .tc sp s e) : sProp 𝕄 :=
  iprop(∃ f, pts (F := F) c M fullShare f)

instance ptsAny_storable (c : Dev nD) {sp : Space} {s : Shape} {e : EltTy} (M : Memref sig .tc sp s e) :
    BI.Storable (upEmb : UEmb _ 𝕄) (ptsAny (F := F) c M) := by unfold ptsAny pts; infer_instance

/-- What device `dn c s` hands device `c` at the barrier: its two slots `s`. -/
def barPay (c : Dev nD) (s : Fin 7) : sProp 𝕄 := iprop(ptsAny (F := F) (dn c s) (rsSlot s) ∗ ptsAny (F := F) (dn c s) (agSlot s))

def dmaPay (c : Dev nD) : Use → sProp 𝕄
  | .stage => iprop(emp)
  | .k => iprop(pts c kM fullShare (kat m c) ∗ pts c (kSrc c) fullShare (m ((c : Thread nD τ).loc main_arg2)))
  | .v => iprop(pts c vM fullShare (vat m c) ∗ pts c (vSrc c) fullShare (m ((c : Thread nD τ).loc main_arg3)))
  | .rsS s => pts c (chunk (dn c s)) fullShare (accR m c)
  | .rsR s => pts c (rsSlot s) fullShare (rsBuf m c)
  | .agS s => pts c agsM (shareTok fullShare 7 s) (totR m c)
  | .agR s => pts c (agSlot s) fullShare (agBuf m c)

def pay (c : Dev nD) (d : Fin 7) : SemLoc sig → sProp 𝕄
  | .reg _ => barPay c d
  | .dma n => dmaPay m c (useOf n)

instance barPay_storable (c : Dev nD) (s : Fin 7) : BI.Storable (upEmb : UEmb _ 𝕄) (barPay (F := F) c s) := by
  have h1 := ptsAny_storable (F := F) (dn c s) (rsSlot s)
  have h2 := ptsAny_storable (F := F) (dn c s) (agSlot s)
  unfold barPay; infer_instance
instance dmaPay_storable (c : Dev nD) (u : Use) : BI.Storable (upEmb : UEmb _ 𝕄) (dmaPay m c u) := by
  cases u <;> (unfold dmaPay; infer_instance)

/-! ## The schedule -/

/-- The bytes of one slot's transfer, of one local copy. -/
abbrev NS : ℕ := (rsSlot 0).view.dmaCredit
abbrev NK : ℕ := kM.view.dmaCredit
theorem NS_pos : 0 < NS := View.dmaCredit_pos _ (by decide)
theorem NK_pos : 0 < NK := View.dmaCredit_pos _ (by decide)

theorem credit_rs (s : Fin 7) : (rsSlot s).view.dmaCredit = NS := rfl
theorem credit_ag (s : Fin 7) : (agSlot s).view.dmaCredit = NS := rfl
theorem credit_chunk (d : Dev nD) : (chunk d).view.dmaCredit = NS := rfl
theorem credit_ags : agsM.view.dmaCredit = NS := rfl
theorem credit_v : vM.view.dmaCredit = NK := rfl

def semDuties : SemLoc sig → Finset (Fin 7)
  | .reg s => if s = barS then Finset.univ else ∅
  | .dma n => if n.val < 4 then ∅ else {0}
def semAmount : SemLoc sig → ℕ
  | .reg _ => 1
  | .dma n => if n.val < 6 then NK else NS
theorem semAmount_pos (sm : SemLoc sig) : 0 < semAmount sm := by
  cases sm with
  | reg s => exact Nat.one_pos
  | dma n =>
    show 0 < if n.val < 6 then NK else NS
    by_cases h : n.val < 6
    · rw [if_pos h]; exact NK_pos
    · rw [if_neg h]; exact NS_pos

def Rd : Rounds.Schedule (GSem nD τ sig) (Fin 7) 𝕄 where
  duties g r := if r = 0 ∧ g.1.2 = .tc then semDuties g.2 else ∅
  unitless _ := False
  amount g _ _ := semAmount g.2
  payload g _ d := pay m g.1.1 d g.2
  amount_pos g _ _ _ := semAmount_pos g.2

instance Rd_storable (g : GSem nD τ sig) (r : ℕ) (d : Fin 7) : BI.Storable (upEmb : UEmb _ 𝕄) ((Rd m).payload g r d) := by
  show BI.Storable upEmb (pay m g.1.1 d g.2)
  cases g.2 with
  | reg s => exact barPay_storable _ _
  | dma n => exact dmaPay_storable m _ _

section Tables
variable (c : Dev nD)

theorem duties_bar : (Rd m).duties (barCell c) 0 = Finset.univ := by
  dsimp only [Rd]; rw [if_pos ⟨rfl, rfl⟩]; unfold semDuties; exact if_pos rfl
theorem duties_dma (n : DmaSem sig) (hn : 4 ≤ n.val) : (Rd m).duties (dmaCell c n) 0 = {0} := by
  dsimp only [Rd]; rw [if_pos ⟨rfl, rfl⟩]; exact if_neg (Nat.not_lt.mpr hn)
theorem duties_later (g : GSem nD τ sig) : ∀ r, 1 ≤ r → (Rd m).duties g r = ∅ := fun r hr => by
  dsimp only [Rd]; rw [if_neg fun h => by omega]
theorem amount_bar (d : Fin 7) : (Rd m).amount (barCell c) 0 d = 1 := rfl
theorem amount_local (n : DmaSem sig) (hn : n.val < 6) (d : Fin 7) : (Rd m).amount (dmaCell c n) 0 d = NK := if_pos hn
theorem amount_slot (n : DmaSem sig) (hn : 6 ≤ n.val) (d : Fin 7) : (Rd m).amount (dmaCell c n) 0 d = NS := if_neg (Nat.not_lt.mpr hn)

theorem expect_bar : (Rd m).expect (barCell c) 0 = 7 := by
  unfold Schedule.expect Schedule.amountOf
  rw [duties_bar, Finset.sum_congr rfl fun d _ => amount_bar m c d, Finset.sum_const, Finset.card_univ, Fintype.card_fin, smul_eq_mul]
theorem expect_dma (n : DmaSem sig) (hn : 4 ≤ n.val) : (Rd m).expect (dmaCell c n) 0 = semAmount (.dma n) := by
  unfold Schedule.expect Schedule.amountOf; rw [duties_dma m c n hn, Finset.sum_singleton]; rfl

theorem rest_bar : bigSep ((Rd m).duties (barCell c) 0 \ ∅) (fun d => (Rd m).payload (barCell c) 0 d) = bigSep Finset.univ (barPay (F := F) c) := by
  rw [Finset.sdiff_empty, duties_bar]; rfl
theorem rest_dma (n : DmaSem sig) (hn : 4 ≤ n.val) :
    bigSep ((Rd m).duties (dmaCell c n) 0 \ ∅) (fun d => (Rd m).payload (dmaCell c n) 0 d) = dmaPay m c (useOf n) := by
  rw [Finset.sdiff_empty, duties_dma m c n hn, bigSep_singleton]; rfl

end Tables

/-! ## What a device owes: a list of cells and amounts, the next to be paid first -/

def owedL : List (GSem nD τ sig × ℕ) → CellTallies nD τ sig Unit
  | [] => 0
  | p :: l => owedL l + tallyAt p.1 () p.2

theorem owedL_pos {l : List (GSem nD τ sig × ℕ)} {g : GSem nD τ sig} {u : Unit} (h : 0 < owedL l g u) : ∃ p ∈ l, g = p.1 := by
  induction l with
  | nil => exact absurd h (Nat.lt_irrefl 0)
  | cons p l ih =>
    by_cases hg : g = p.1
    · exact ⟨p, List.mem_cons_self, hg⟩
    · unfold owedL at h
      rw [Pi.add_apply, Finsupp.add_apply, tallyAt_apply, if_neg (fun h' => hg h'.1), Nat.add_zero] at h
      obtain ⟨q, hq, e⟩ := ih h
      exact ⟨q, List.mem_cons_of_mem _ hq, e⟩

/-- The signals of the barrier, the arrivals of the first and of the second exchange, over the slots `l`. -/
def barL (c : Dev nD) (l : List (Fin 7)) : List (GSem nD τ sig × ℕ) := l.map fun s => (barCell (up c s), 1)
def rsL (c : Dev nD) (l : List (Fin 7)) : List (GSem nD τ sig × ℕ) := l.map fun s => (dmaCell (dn c s) (rsRs s), NS)
def agL (c : Dev nD) (l : List (Fin 7)) : List (GSem nD τ sig × ℕ) := l.map fun s => (dmaCell (dn c s) (agRs s), NS)

abbrev upward : List (Fin 7) := [0, 1, 2, 3, 4, 5, 6]
abbrev downward : List (Fin 7) := [6, 5, 4, 3, 2, 1, 0]

/-- Everything device `c` owes at launch, in the order its program pays. -/
def O₀ (c : Dev nD) : CellTallies nD τ sig Unit := owedL (barL c upward ++ (rsL c downward ++ agL c downward))

/-! ## The order of the cells -/

def L (g : GSem nD τ sig) : Finset Unit := if g.1.2 = .tc then {()} else ∅
def useLevel : Use → ℕ
  | .rsR _ => 2
  | .agR _ => 3
  | _ => 0
def semLevel : SemLoc sig → ℕ
  | .reg s => if s = barS then 1 else 0
  | .dma n => useLevel (useOf n)
/-- Barrier cells at 1, the first exchange's arrivals at 2, the second's at 3, everything else at 0. -/
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl

/-- Every cell of `l` is a core's and lies above level `k`. -/
def Above (k : ℕ) (l : List (GSem nD τ sig × ℕ)) : Prop := ∀ p ∈ l, p.1.1.2 = .tc ∧ k < lv p.1 ()

theorem above_nil (k : ℕ) : Above k [] := fun p h => absurd h List.not_mem_nil
theorem above_append {k : ℕ} {l l' : List (GSem nD τ sig × ℕ)} (h : Above k l) (h' : Above k l') : Above k (l ++ l') := fun p hp =>
  (List.mem_append.mp hp).elim (h p) (h' p)
theorem above_bar (c : Dev nD) (l : List (Fin 7)) {k : ℕ} (hk : k < 1) : Above k (barL c l) := fun p hp => by
  obtain ⟨s, -, rfl⟩ := List.mem_map.mp hp
  exact ⟨rfl, hk⟩
theorem above_rs (c : Dev nD) (l : List (Fin 7)) {k : ℕ} (hk : k < 2) : Above k (rsL c l) := fun p hp => by
  obtain ⟨s, -, rfl⟩ := List.mem_map.mp hp
  refine ⟨rfl, ?_⟩
  show k < useLevel (useOf (rsRs s)); rw [use_rsR]; exact hk
theorem above_ag (c : Dev nD) (l : List (Fin 7)) {k : ℕ} (hk : k < 3) : Above k (agL c l) := fun p hp => by
  obtain ⟨s, -, rfl⟩ := List.mem_map.mp hp
  refine ⟨rfl, ?_⟩
  show k < useLevel (useOf (agRs s)); rw [use_agR]; exact hk

theorem mayWait (c : Dev nD) (sm : SemLoc sig) (k : ℕ) (hs : semLevel sm ≤ k) (l : List (GSem nD τ sig × ℕ)) (hl : Above k l) :
    (levAts L lv : sProp 𝕄) ⊢ MayWait (c : Thread nD τ) sm () (owedL l) :=
  MayOwe.of_cut (L := L) (lev := lv) k (fun p hp => by rw [Finset.mem_singleton.mp hp, L_tc]; exact Finset.mem_singleton_self _)
    (fun g u hg => by
      obtain ⟨p, hp, rfl⟩ := owedL_pos hg
      show u ∈ L p.1
      unfold L; rw [if_pos (hl p hp).1]; exact Finset.mem_singleton_self _)
    (fun p hp => by rw [Finset.mem_singleton.mp hp]; exact hs)
    (fun g u hg => by
      obtain ⟨p, hp, rfl⟩ := owedL_pos hg
      exact (hl p hp).2)

/-! ## What every device knows throughout -/

/-- Every cell's invariant, and that every cell has reached its round 0. -/
def records (K : Dev nD × Fin 31 → ℕ) : sProp 𝕄 :=
  bigSep Finset.univ fun ck => iprop(cellInv ER (Rd m) (K ck) (kcell ck) ∗ reached ER (kcell ck) 0)
def know (K : Dev nD × Fin 31 → ℕ) : sProp 𝕄 := iprop(records m K ∗ levAts L lv)

instance records_persistent (K : Dev nD × Fin 31 → ℕ) : BI.Persistent (records m K) := by unfold records; infer_instance
instance know_persistent (K : Dev nD × Fin 31 → ℕ) : BI.Persistent (know m K) := by unfold know; infer_instance

variable (K : Dev nD × Fin 31 → ℕ)

theorem know_cell (ck : Dev nD × Fin 31) : know m K ⊢ iprop(cellInv ER (Rd m) (K ck) (kcell ck) ∗ reached ER (kcell ck) 0) := by
  have h : records m K ⊢ iprop(cellInv ER (Rd m) (K ck) (kcell ck) ∗ reached ER (kcell ck) 0) := bigSep_elim (Finset.mem_univ ck)
  unfold know
  iintro ⟨H, -⟩
  iapply h; iexact H
theorem know_bar (c : Dev nD) : know m K ⊢ iprop(cellInv ER (Rd m) (K (c, 0)) (barCell c) ∗ reached ER (barCell c) 0) := know_cell m K (c, 0)
theorem know_dma (c : Dev nD) (n : DmaSem sig) (hn : 4 ≤ n.val) :
    know m K ⊢ iprop(cellInv ER (Rd m) (K (c, pos n)) (dmaCell c n) ∗ reached ER (dmaCell c n) 0) := by
  have h := know_cell m K (c, pos n)
  rw [show kcell (c, pos n) = dmaCell c n from Prod.ext rfl (csem_pos n hn)] at h
  exact h
theorem know_lev : know m K ⊢ (levAts L lv : sProp 𝕄) := by unfold know; iintro ⟨-, H⟩; iexact H

end Cert.KernelIdealProof

end
-- ==== Proof.Steps.lean ====
/-
One rule for each kind of synchronising operation the kernel performs, at this kernel's cells: a signal of the barrier, the wait
at the barrier, a local copy, a transfer of either exchange, and the wait for a transfer. Each rule is the library's rule
for the schedule of `Protocol`, with the debts kept as a list and the cell closed as soon as its one round is over.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` owes the entries of `l`. -/
def owesL (c : Dev nD) (l : List (GSem nD τ sig × ℕ)) : sProp 𝕄 := iprop(∃ W, owes (c : Thread nD τ) (owedL l) W)

/-- A conjunction over the slots of a list, its head first. -/
def fam (Φ : Fin 7 → sProp 𝕄) : List (Fin 7) → sProp 𝕄
  | [] => iprop(emp)
  | s :: l => iprop(Φ s ∗ fam Φ l)

abbrev dutyA (g : GSem nD τ sig) (d : Fin 7) : sProp 𝕄 := dutyTok ER g 0 d
abbrev atA (g : GSem nD τ sig) : sProp 𝕄 := atPos ER g 0 ∅ 0
abbrev creditA (g : GSem nD τ sig) (n : ℕ) : sProp 𝕄 := cred (tallyAt g () n)

/-- The program `P` on device `c` runs to `Q`. -/
abbrev runs (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

variable (K : Dev nD × Fin 31 → ℕ)

section Rules

variable {α : Type} {Q : α → sProp (MT nD τ sig Unit (Elt F) ℕ UU ℕ)} {k : PUnit → Prog (TpuEff nD τ sig (Elt F) Λ₀ .tc) α}

theorem step_signal (c n : Dev nD) (s : Fin 7) (hn : n = up c s) (k' : ℕ) (hk' : 1 = k') (l : List (GSem nD τ sig × ℕ)) :
    iprop(know m K ∗ owesL c ((barCell (up c s), 1) :: l) ∗ dutyA (barCell (up c s)) s
        ∗ ptsAny (F := F) c (rsSlot s) ∗ ptsAny (F := F) c (agSlot s))
      ⊢ iprop((owesL c l -∗ runs c (k ⟨⟩) Q) -∗ runs c (.op (.semSignal (n : Thread nD τ) barS k') k) Q) := by
  subst hn
  unfold owesL
  iintro ⟨#Hk, ⟨%W, HO⟩, Ht, Hr, Ha⟩ Hc
  ihave H := (know_bar m K (up c s)) $$ Hk
  icases H with ⟨#HI, #HR⟩
  iapply (Rounds.wp_signal 𝒱₀ ER (Rd m) (c : Thread nD τ) none (dst := (up c s : Thread nD τ)) (κ := K (up c s, 0))
      (d := s) (by rw [duties_bar]; exact Finset.mem_univ _) ((amount_bar m (up c s) s).trans hk') () (owedL l) (by subst hk'; rfl))
    $$ [HO Ht Hr Ha]
  · isplitr; · iexact HI
    isplitl [HO]; · iexact HO
    isplitl [Ht]; · iexact Ht
    isplitl [Hr Ha]
    · iapply (Entails.of_eq (show barPay (F := F) (up c s) s = (Rd m).payload (barCell (up c s)) 0 s from rfl))
      unfold barPay; rw [dn_up]
      isplitl [Hr] <;> iassumption
    iexact HR
  iintro HO
  iapply Hc
  iexists W; iexact HO

theorem step_bar (c : Dev nD) (k' : ℕ) (hk' : k' = 7) (l : List (GSem nD τ sig × ℕ)) (hl : Above 1 l) :
    iprop(know m K ∗ owesL c l ∗ creditA (barCell c) 7 ∗ atA (barCell c))
      ⊢ iprop((iprop(owesL c l ∗ semVal (barCell c) 0 ∗ bigSep Finset.univ (barPay (F := F) c)) -∗ runs c (k ⟨⟩) Q)
          -∗ runs c (.op (.semWait barS k') k) Q) := by
  subst hk'
  unfold owesL
  iintro ⟨#Hk, ⟨%W, HO⟩, Hcr, Hat⟩ Hc
  ihave H := (know_bar m K c) $$ Hk
  icases H with ⟨#HI, #HR⟩
  iapply (Rounds.wp_wait_rest_token 𝒱₀ ER (Rd m) (c : Thread nD τ) none (κ := K (c, 0))
      (wpE_semWait_eq 𝒱₀ (c : Thread nD τ) none Set.univ) (Set.mem_univ _) () (O := owedL l) (W := W) (R := 0) (m := 0) (T := ∅)
      (by rw [expect_bar])) $$ [Hcr HO Hat]
  · isplitr; · iexact HI
    isplitl [Hcr]; · iexact Hcr
    isplitl [HO]; · iexact HO
    isplitr
    · iapply (mayWait (F := F) c (.reg barS) 1 (by decide) l hl); iapply (know_lev m K); iexact Hk
    iexact Hat
  iintro ⟨HO, Hat, -, Hpay⟩
  imod (Rounds.cell_close ER (Rd m) (Set.mem_univ (K (c, 0))) (fun h => h) (R := 0 + 1) (duties_later m (barCell c))) $$ [Hat] with Hz
  · isplitr; · iexact HI
    iexact Hat
  iapply Hc
  isplitl [HO]; · iexists _; iexact HO
  isplitl [Hz]; · iexact Hz
  iapply (Entails.of_eq (rest_bar m c)); iexact Hpay

/-- The wait for the transfer of cell `n`. -/
theorem step_wait (c : Dev nD) (n : DmaSem sig) (u : Use) (hu : useOf n = u) (hn : 4 ≤ n.val) (lvl : ℕ) (hlvl : useLevel u ≤ lvl)
    (l : List (GSem nD τ sig × ℕ)) (hl : Above lvl l) (n' : DmaSem sig) (hn' : n' = n)
    {sp sp' : Space} {s s' : Shape} {e e' : EltTy} {src : Memref sig .tc sp s e} {dst : Memref sig .tc sp' s' e'}
    {hsrc : src.view.WordExact} {hdst : dst.view.WordExact} (hN : dst.view.dmaCredit = semAmount (.dma n)) :
    iprop(know m K ∗ owesL c l ∗ creditA (dmaCell c n) (semAmount (.dma n)) ∗ atA (dmaCell c n))
      ⊢ iprop((iprop(owesL c l ∗ semVal (dmaCell c n) 0 ∗ dmaPay m c u) -∗ runs c (k ⟨⟩) Q)
          -∗ runs c (.op (.waitDma2 n' src dst hsrc hdst) k) Q) := by
  subst hn' hu
  unfold owesL
  iintro ⟨#Hk, ⟨%W, HO⟩, Hcr, Hat⟩ Hc
  ihave H := (know_dma m K c n' hn) $$ Hk
  icases H with ⟨#HI, #HR⟩
  iapply (Rounds.wp_wait_rest_token 𝒱₀ ER (Rd m) (c : Thread nD τ) none (κ := K (c, pos n'))
      (wpE_waitDma2_eq 𝒱₀ (c : Thread nD τ) none Set.univ) (Set.mem_univ _) () (O := owedL l) (W := W) (R := 0) (m := 0) (T := ∅)
      (by rw [Nat.zero_add, expect_dma m c n' hn, hN])) $$ [Hcr HO Hat]
  · isplitr; · iexact HI
    isplitl [Hcr]; · rw [hN]; iexact Hcr
    isplitl [HO]; · iexact HO
    isplitr
    · iapply (mayWait (F := F) c (.dma n') lvl hlvl l hl); iapply (know_lev m K); iexact Hk
    iexact Hat
  iintro ⟨HO, Hat, -, Hpay⟩
  imod (Rounds.cell_close ER (Rd m) (Set.mem_univ (K (c, pos n'))) (fun h => h) (R := 0 + 1) (duties_later m (dmaCell c n'))) $$ [Hat] with Hz
  · isplitr; · iexact HI
    iexact Hat
  iapply Hc
  isplitl [HO]; · iexists _; iexact HO
  isplitl [Hz]; · iexact Hz
  iapply (Entails.of_eq (rest_dma m c n' hn)); iexact Hpay

/-- A transfer from `c` to `p`: its departure counted on `c`'s cell `nS`, its arrival on `p`'s cell `nR`. -/
theorem step_send (c p : Dev nD) (nS nR : DmaSem sig) (uS uR : Use) (huS : useOf nS = uS) (huR : useOf nR = uR)
    (hS : 6 ≤ nS.val) (hR : 6 ≤ nR.val) (l : List (GSem nD τ sig × ℕ))
    {src : Memref sig .tc .vmem S128x1024 .bf16} {dst : Memref sig .tc .vmem S128x1024 .bf16}
    {hsc : (dst : Memref sig (Dev.tc p : Thread nD τ).2.kind .vmem S128x1024 .bf16).view.ref.isScScratch = false}
    {hsrc : src.view.WordExact} {hdst : dst.view.WordExact}
    {hsem : DmaTarget.Typed .vmem (.dma nR) (.remote (Dev.tc p : Thread nD τ) (dst : Memref sig (Dev.tc p : Thread nD τ).2.kind .vmem S128x1024 .bf16) (.dma nS) hsc)}
    (hN : dst.view.amount (.dma nR) = NS)
    (q : PosShare TreeShare) (fs : Buf (Elt F) (src.view.loc (c : Thread nD τ)))
    (hpayS : pts c src q fs ⊢ dmaPay m c uS)
    (hpayR : ∀ fd : Buf (Elt F) (dst.view.loc (p : Thread nD τ)),
      pts p dst fullShare (dst.view.write (Elt F) fd (src.view.read (Elt F) fs) Finset.univ) ⊢ dmaPay m p uR) :
    iprop(know m K ∗ owesL c ((dmaCell p nR, NS) :: l) ∗ dutyA (dmaCell c nS) 0 ∗ dutyA (dmaCell p nR) 0
        ∗ ptsAny (F := F) p dst ∗ pts c src q fs)
      ⊢ iprop((iprop(owesL c l ∗ creditA (dmaCell c nS) NS) -∗ runs c (k ⟨⟩) Q)
          -∗ runs c (.op (.enqueueDma src (.remote (Dev.tc p : Thread nD τ) dst (.dma nS) hsc) (.dma nR) hsrc hdst hsem) k) Q) := by
  subst huS huR
  unfold owesL
  iintro ⟨#Hk, ⟨%W, HO⟩, HtS, HtR, ⟨%fd, Hd⟩, Hs⟩ Hc
  ihave H1 := (know_dma m K c nS (le_trans (by decide) hS)) $$ Hk
  icases H1 with ⟨#HI1, #HR1⟩
  ihave H2 := (know_dma m K p nR (le_trans (by decide) hR)) $$ Hk
  icases H2 with ⟨#HI2, #HR2⟩
  iapply (Rounds.wp_send_pointsTo 𝒱₀ ER (Rd m) (c : Thread nD τ) none (κ₁ := K (c, pos nS)) (κ₂ := K (p, pos nR))
    (r₁ := 0) (r₂ := 0) (d₁ := 0) (d₂ := 0) (fd := fd)
    (by rw [duties_dma m c nS (le_trans (by decide) hS)]; exact Finset.mem_singleton_self _)
    (by rw [duties_dma m p nR (le_trans (by decide) hR)]; exact Finset.mem_singleton_self _)
    () () NS hN (amount_slot m c nS hS 0) (amount_slot m p nR hR 0) (owedL l) rfl (W := W)
    hpayS (hpayR fd)) $$ [HO HtS HtR Hd Hs]
  · isplitr; · iexact HI1
    isplitr; · iexact HI2
    isplitl [Hs]; · iexact Hs
    isplitl [Hd]; · iexact Hd
    isplitl [HO]; · iexact HO
    isplitl [HtS]; · iexact HtS
    isplitr; · iexact HR1
    isplitl [HtR]; · iexact HtR
    iexact HR2
  iintro ⟨Hcr, HO⟩
  iapply Hc
  isplitl [HO]; · iexists W; iexact HO
  iexact Hcr

/-- Sending the row block of device `dn c s` to it, into its slot `s`. -/
theorem step_rs (c n : Dev nD) (s : Fin 7) (hn : n = dn c s) (l : List (GSem nD τ sig × ℕ))
    {src : Memref sig .tc .vmem S128x1024 .bf16} (hsrc' : src = chunk (dn c s))
    {dst : Memref sig .tc .vmem S128x1024 .bf16} (hdst' : dst = rsSlot s)
    {nS nR : DmaSem sig} (hS : nS = rsSs s) (hR : nR = rsRs s)
    {hsc : (dst : Memref sig (Dev.tc n : Thread nD τ).2.kind .vmem S128x1024 .bf16).view.ref.isScScratch = false}
    {hsrc : src.view.WordExact} {hdst : dst.view.WordExact}
    {hsem : DmaTarget.Typed .vmem (.dma nR) (.remote (Dev.tc n : Thread nD τ) (dst : Memref sig (Dev.tc n : Thread nD τ).2.kind .vmem S128x1024 .bf16) (.dma nS) hsc)} :
    iprop(know m K ∗ owesL c ((dmaCell (dn c s) (rsRs s), NS) :: l) ∗ dutyA (dmaCell c (rsSs s)) 0 ∗ dutyA (dmaCell (dn c s) (rsRs s)) 0
        ∗ ptsAny (F := F) (dn c s) (rsSlot s) ∗ pts c (chunk (dn c s)) fullShare (accR m c))
      ⊢ iprop((iprop(owesL c l ∗ creditA (dmaCell c (rsSs s)) NS) -∗ runs c (k ⟨⟩) Q)
          -∗ runs c (.op (.enqueueDma src (.remote (Dev.tc n : Thread nD τ) dst (.dma nS) hsc) (.dma nR) hsrc hdst hsem) k) Q) := by
  subst hn hsrc' hdst' hS hR
  have h1 : pts c (chunk (dn c s)) fullShare (accR m c) ⊢ dmaPay m c (.rsS s) := Entails.refl _
  have h2 : ∀ fd, pts (dn c s) (rsSlot s) fullShare ((rsSlot s).view.write (Elt F) fd ((chunk (dn c s)).view.read (Elt F) (accR m c)) Finset.univ)
      ⊢ dmaPay m (dn c s) (.rsR s) := fun fd => Entails.of_eq (pointsTo_congr fun i hi => by
    have h := rs_land m (dn c s) s fd i hi
    rw [up_dn] at h; exact h)
  have h3 := step_send (Q := Q) (k := k) m K c (dn c s) (rsSs s) (rsRs s) (.rsS s) (.rsR s) (use_rsS s) (use_rsR s)
    (Nat.le_add_right 6 s.val) (Nat.le_trans (by decide) (Nat.le_add_right 13 s.val)) l (src := chunk (dn c s)) (dst := rsSlot s)
    (hsc := hsc) (hsrc := hsrc) (hdst := hdst) (hsem := hsem) (credit_rs s) fullShare (accR m c) h1 h2
  exact h3

/-- Sending the device's rounded total to device `dn c s`, into its slot `s`. -/
theorem step_ag (c n : Dev nD) (s : Fin 7) (hn : n = dn c s) (l : List (GSem nD τ sig × ℕ))
    {dst : Memref sig .tc .vmem S128x1024 .bf16} (hdst' : dst = agSlot s)
    {nS nR : DmaSem sig} (hS : nS = agSs s) (hR : nR = agRs s)
    {hsc : (dst : Memref sig (Dev.tc n : Thread nD τ).2.kind .vmem S128x1024 .bf16).view.ref.isScScratch = false}
    {hsrc : agsM.view.WordExact} {hdst : dst.view.WordExact}
    {hsem : DmaTarget.Typed .vmem (.dma nR) (.remote (Dev.tc n : Thread nD τ) (dst : Memref sig (Dev.tc n : Thread nD τ).2.kind .vmem S128x1024 .bf16) (.dma nS) hsc)} :
    iprop(know m K ∗ owesL c ((dmaCell (dn c s) (agRs s), NS) :: l) ∗ dutyA (dmaCell c (agSs s)) 0 ∗ dutyA (dmaCell (dn c s) (agRs s)) 0
        ∗ ptsAny (F := F) (dn c s) (agSlot s) ∗ pts c agsM (shareTok fullShare 7 s) (totR m c))
      ⊢ iprop((iprop(owesL c l ∗ creditA (dmaCell c (agSs s)) NS) -∗ runs c (k ⟨⟩) Q)
          -∗ runs c (.op (.enqueueDma agsM (.remote (Dev.tc n : Thread nD τ) dst (.dma nS) hsc) (.dma nR) hsrc hdst hsem) k) Q) := by
  subst hn hdst' hS hR
  have h1 : pts c agsM (shareTok fullShare 7 s) (totR m c) ⊢ dmaPay m c (.agS s) := Entails.refl _
  have h2 : ∀ fd, pts (dn c s) (agSlot s) fullShare ((agSlot s).view.write (Elt F) fd (agsM.view.read (Elt F) (totR m c)) Finset.univ)
      ⊢ dmaPay m (dn c s) (.agR s) := fun fd => Entails.of_eq (pointsTo_congr fun i hi => by
    have h := ag_land m (dn c s) s fd i hi
    rw [up_dn] at h; exact h)
  have h3 := step_send (Q := Q) (k := k) m K c (dn c s) (agSs s) (agRs s) (.agS s) (.agR s) (use_agS s) (use_agR s)
    (Nat.le_trans (by decide) (Nat.le_add_right 20 s.val)) (Nat.le_trans (by decide) (Nat.le_add_right 27 s.val)) l (src := agsM) (dst := agSlot s)
    (hsc := hsc) (hsrc := hsrc) (hdst := hdst) (hsem := hsem) (credit_ag s) (shareTok fullShare 7 s) (totR m c) h1 h2
  exact h3

/-- A local copy of a device's heads. -/
theorem step_copy (c : Dev nD) (n : DmaSem sig) (u : Use) (hu : useOf n = u) (h4 : 4 ≤ n.val) (h6 : n.val < 6)
    {src : Memref sig .tc .hbm S1024x8x128 .f32} {dst : Memref sig .tc .vmem S1024x8x128 .f32} {n' : DmaSem sig} (hn' : n' = n)
    {hsrc : src.view.WordExact} {hdst : dst.view.WordExact} {hsem : DmaTarget.Typed (nD := nD) (τ := τ) (p := Proc.tc) .hbm (.dma n') (.here dst)}
    (hN : dst.view.amount (.dma n) = NK) (fs : Buf (Elt F) (src.view.loc (c : Thread nD τ)))
    (hpay : ∀ fd : Buf (Elt F) (dst.view.loc (c : Thread nD τ)),
      iprop(pts c dst fullShare (dst.view.write (Elt F) fd (src.view.read (Elt F) fs) Finset.univ) ∗ pts c src fullShare fs) ⊢ dmaPay m c u) :
    iprop(know m K ∗ dutyA (dmaCell c n) 0 ∗ pts c src fullShare fs ∗ ptsAny (F := F) c dst)
      ⊢ iprop((creditA (dmaCell c n) NK -∗ runs c (k ⟨⟩) Q)
          -∗ runs c (.op (.enqueueDma src (.here dst) (.dma n') hsrc hdst hsem) k) Q) := by
  subst hu hn'
  iintro ⟨#Hk, Ht, Hs, ⟨%fd, Hd⟩⟩ Hc
  ihave H1 := (know_dma m K c n' h4) $$ Hk
  icases H1 with ⟨#HI1, #HR1⟩
  iapply (Rounds.wp_copy_pointsTo 𝒱₀ ER (Rd m) (c : Thread nD τ) none (κ := K (c, pos n')) (r := 0) (d := 0) (fd := fd)
    (by rw [duties_dma m c n' h4]; exact Finset.mem_singleton_self _) () NK hN (amount_local m c n' h6 0) (hpay fd)) $$ [Ht Hs Hd]
  · isplitr; · iexact HI1
    isplitl [Hs]; · iexact Hs
    isplitl [Hd]; · iexact Hd
    isplitl [Ht]; · iexact Ht
    iexact HR1
  iexact Hc

end Rules

end Cert.KernelIdealProof

end
-- ==== Proof.Access.lean ====
/-
The loads and stores of the kernel, at this kernel's buffers: each reads what `Contents` names, or leaves what it names. Rectangles
are taken up to equality of their offsets, which the program computes as words.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

section Access

variable {α : Type} {Q : α → sProp (MT nD τ sig Unit (Elt F) ℕ UU ℕ)}

theorem setOn_sub {sp : Space} {s : Shape} {e : EltTy} (v : View sig .tc sp s e) (M : Finset s.Idx) : v.setOn M ⊆ v.set :=
  Finset.map_subset_map.mpr (Finset.subset_univ M)

/-- A load of the rectangle at `off`, which is the rectangle at `off'`. -/
theorem load_at (c : Dev nD) {cs : CoreSpace} {s : Shape} {e : EltTy} {M : Memref sig .tc cs s e} {q : PosShare TreeShare}
    {f : Buf (Elt F) (M.view.loc (c : Thread nD τ))} {off off' size : Fin s.rank → ℕ}
    {inb : ∀ a, off a + size a ≤ s.size a} (hoff : off = off') (inb' : ∀ a, off' a + size a ≤ s.size a)
    {hl : M.view.LoadsAt (Rect.unit (s := s) off size inb).toLoadRect}
    {k : ((Rect.unit (s := s) off size inb).toLoadRect.shape.Idx → Elt F e) → Prog (TpuEff nD τ sig (Elt F) Λ₀ .tc) α} :
    pts c M q f ⊢ iprop((pts c M q f -∗ runs c (k (M.view.readAt (Elt F) (Rect.unit (s := s) off' size inb').toLoadRect f)) Q)
      -∗ runs c (.op (.load M (Rect.unit (s := s) off size inb).toLoadRect hl) k) Q) := by
  subst hoff
  exact wp_load 𝒱₀ (c : Thread nD τ) none Set.univ (m := M) (setOn_sub _ _)

theorem load_k (c : Dev nD) (h : Fin 8) {off : Fin 3 → ℕ} {inb : ∀ a, off a + S1024x1x128.size a ≤ S1024x8x128.size a} (hoff : off = ![0, h.val, 0])
    {hl : kM.view.LoadsAt (Rect.unit (s := S1024x8x128) off S1024x1x128.size inb).toLoadRect}
    {k : Vec F S1024x1x128 .f32 → Prog (TpuEff nD τ sig (Elt F) Λ₀ .tc) α} :
    pts c kM fullShare (kat m c) ⊢ iprop((pts c kM fullShare (kat m c) -∗ runs c (k (kHead m c h)) Q)
      -∗ runs c (.op (.load kM (Rect.unit (s := S1024x8x128) off S1024x1x128.size inb).toLoadRect hl) k) Q) :=
  load_at c hoff (inbHead h)
theorem load_v (c : Dev nD) (h : Fin 8) {off : Fin 3 → ℕ} {inb : ∀ a, off a + S1024x1x128.size a ≤ S1024x8x128.size a} (hoff : off = ![0, h.val, 0])
    {hl : vM.view.LoadsAt (Rect.unit (s := S1024x8x128) off S1024x1x128.size inb).toLoadRect}
    {k : Vec F S1024x1x128 .f32 → Prog (TpuEff nD τ sig (Elt F) Λ₀ .tc) α} :
    pts c vM fullShare (vat m c) ⊢ iprop((pts c vM fullShare (vat m c) -∗ runs c (k (vHead m c h)) Q)
      -∗ runs c (.op (.load vM (Rect.unit (s := S1024x8x128) off S1024x1x128.size inb).toLoadRect hl) k) Q) :=
  load_at c hoff (inbHead h)

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0

theorem load_w (c : Dev nD) (h : Fin 8) {off : Fin 2 → ℕ} {inb : ∀ a, off a + S128x1024.size a ≤ S1024x1024.size a} (hoff : off = ![128 * h.val, 0])
    {hl : woM.view.LoadsAt (Rect.unit (s := S1024x1024) off S128x1024.size inb).toLoadRect}
    {k : Vec F S128x1024 .f32 → Prog (TpuEff nD τ sig (Elt F) Λ₀ .tc) α} :
    pts c woM fullShare (wostg m c) ⊢ iprop((pts c woM fullShare (wostg m c) -∗ runs c (k (wHead m c h)) Q)
      -∗ runs c (.op (.load woM (Rect.unit (s := S1024x1024) off S128x1024.size inb).toLoadRect hl) k) Q) :=
  load_at c hoff (inb8 h)

theorem hz2 : (![0, 0] : Fin 2 → ℕ) = fun _ => 0 := funext fun a => by fin_cases a <;> rfl
theorem hz3 : (![0, 0, 0] : Fin 3 → ℕ) = fun _ => 0 := funext fun a => by fin_cases a <;> rfl

theorem load_x (c : Dev nD) {off : Fin 3 → ℕ} {inb : ∀ a, off a + S1x1024x1024.size a ≤ S1x1024x1024.size a} (hoff : off = fun _ => 0)
    {hl : xM.view.LoadsAt (Rect.unit (s := S1x1024x1024) off S1x1024x1024.size inb).toLoadRect}
    {k : Vec F S1x1024x1024 .f32 → Prog (TpuEff nD τ sig (Elt F) Λ₀ .tc) α} :
    pts c xM fullShare (xstg m c) ⊢ iprop((pts c xM fullShare (xstg m c) -∗ runs c (k (xstg m c)) Q)
      -∗ runs c (.op (.load xM (Rect.unit (s := S1x1024x1024) off S1x1024x1024.size inb).toLoadRect hl) k) Q) := by
  have h := load_at (F := F) (Q := Q) c (M := xM) (q := fullShare) (f := xstg m c) (inb := inb) (hl := hl) (k := k) rfl inb
  have e : xM.view.readAt (Elt F) (Rect.unit (s := S1x1024x1024) off S1x1024x1024.size inb).toLoadRect (xstg m c) = xstg m c :=
    Memref.readAt_unit_zero (Elt F) cc0_stg0_0 hoff inb (xstg m c)
  rwa [e] at h
theorem load_wq (c : Dev nD) {off : Fin 2 → ℕ} {inb : ∀ a, off a + S1024x1024.size a ≤ S1024x1024.size a} (hoff : off = fun _ => 0)
    {hl : wqM.view.LoadsAt (Rect.unit (s := S1024x1024) off S1024x1024.size inb).toLoadRect}
    {k : Vec F S1024x1024 .f32 → Prog (TpuEff nD τ sig (Elt F) Λ₀ .tc) α} :
    pts c wqM fullShare (wqstg m c) ⊢ iprop((pts c wqM fullShare (wqstg m c) -∗ runs c (k (wqstg m c)) Q)
      -∗ runs c (.op (.load wqM (Rect.unit (s := S1024x1024) off S1024x1024.size inb).toLoadRect hl) k) Q) := by
  have h := load_at (F := F) (Q := Q) c (M := wqM) (q := fullShare) (f := wqstg m c) (inb := inb) (hl := hl) (k := k) rfl inb
  have e : wqM.view.readAt (Elt F) (Rect.unit (s := S1024x1024) off S1024x1024.size inb).toLoadRect (wqstg m c) = wqstg m c :=
    Memref.readAt_unit_zero (Elt F) cc0_stg1_0 hoff inb (wqstg m c)
  rwa [e] at h

/-- A load whose result the program drops. -/
theorem load_drop (c : Dev nD) {cs : CoreSpace} {s : Shape} {e : EltTy} {M : Memref sig .tc cs s e} {q : PosShare TreeShare}
    {f : Buf (Elt F) (M.view.loc (c : Thread nD τ))} {r : LoadRect s} {hl : M.view.LoadsAt r}
    {k : (r.shape.Idx → Elt F e) → Prog (TpuEff nD τ sig (Elt F) Λ₀ .tc) α} :
    pts c M q f ⊢ iprop((∀ v, pts c M q f -∗ runs c (k v) Q) -∗ runs c (.op (.load M r hl) k) Q) := by
  iintro H Hk
  iapply (wp_load 𝒱₀ (c : Thread nD τ) none Set.univ (m := M) (setOn_sub _ _)) $$ H
  iintro H
  iapply Hk; iexact H

theorem load_acc (c : Dev nD)
    {hl : accM.view.LoadsAt (Rect.unit (s := S1024x1024) (k0_off3 c) S128x1024.size (k0_off3_inb c)).toLoadRect}
    {k : Vec F S128x1024 .f32 → Prog (TpuEff nD τ sig (Elt F) Λ₀ .tc) α} :
    pts c accM fullShare (acc m c) ⊢ iprop((pts c accM fullShare (acc m c) -∗ runs c (k (ownRows m c)) Q)
      -∗ runs c (.op (.load accM (Rect.unit (s := S1024x1024) (k0_off3 c) S128x1024.size (k0_off3_inb c)).toLoadRect hl) k) Q) :=
  load_at c rfl (k0_off3_inb c)

/-- The load of landing slot `s`, by a device holding that slot. -/
theorem load_rs (c : Dev nD) (s : Fin 7) {off : Fin 3 → ℕ} {inb : ∀ a, off a + S1x128x1024.size a ≤ S7x128x1024.size a} (hoff : off = ![s.val, 0, 0])
    {hl : rsM.view.LoadsAt (Rect.unit (s := S7x128x1024) off S1x128x1024.size inb).toLoadRect}
    {k : Vec F S1x128x1024 .bf16 → Prog (TpuEff nD τ sig (Elt F) Λ₀ .tc) α} :
    pts c (rsSlot s) fullShare (rsBuf m c) ⊢ iprop((pts c (rsSlot s) fullShare (rsBuf m c) -∗ runs c (k (rsRead m c s)) Q)
      -∗ runs c (.op (.load rsM (Rect.unit (s := S7x128x1024) off S1x128x1024.size inb).toLoadRect hl) k) Q) := by
  subst hoff
  exact wp_load 𝒱₀ (c : Thread nD τ) none Set.univ (m := rsM) (f := rsBuf m c)
    (by rw [rsSlot_set]; exact (Finset.map_refl (s := (slotR s).set)).le)
theorem load_ag (c : Dev nD) (s : Fin 7) {off : Fin 3 → ℕ} {inb : ∀ a, off a + S1x128x1024.size a ≤ S7x128x1024.size a} (hoff : off = ![s.val, 0, 0])
    {hl : agM.view.LoadsAt (Rect.unit (s := S7x128x1024) off S1x128x1024.size inb).toLoadRect}
    {k : Vec F S1x128x1024 .bf16 → Prog (TpuEff nD τ sig (Elt F) Λ₀ .tc) α} :
    pts c (agSlot s) fullShare (agBuf m c) ⊢ iprop((pts c (agSlot s) fullShare (agBuf m c) -∗ runs c (k (agRead m c s)) Q)
      -∗ runs c (.op (.load agM (Rect.unit (s := S7x128x1024) off S1x128x1024.size inb).toLoadRect hl) k) Q) := by
  subst hoff
  exact wp_load 𝒱₀ (c : Thread nD τ) none Set.univ (m := agM) (f := agBuf m c)
    (by rw [agSlot_set]; exact (Finset.map_refl (s := (slotR s).set)).le)

/-- A store that fills a whole buffer. -/
theorem store_whole (c : Dev nD) (b : Ref sig .tc) {cs : CoreSpace} {s : Shape} {e : EltTy} {M : Memref sig .tc cs s e} {r : Rect s} {w : r.shape.Idx → Elt F e}
    {f g : Buf (Elt F) (M.view.loc (c : Thread nD τ))} (hw : (M.access r).write (Elt F) f w Finset.univ = g)
    {hx : (M.access r).Stores Finset.univ} {hm : (Finset.univ : Finset r.shape.Idx) = Finset.univ ∨ ∀ a, r.stride a = 1}
    {k : PUnit → Prog (TpuEff nD τ sig (Elt F) Λ₀ .tc) α} :
    pts c M fullShare f ⊢ iprop((pts c M fullShare g -∗ runs c (k ⟨⟩) Q)
      -∗ runs c (.op (.store M r w Finset.univ hx hm) k) Q) := by
  subst hw
  refine wp_store 𝒱₀ (c : Thread nD τ) none Set.univ (m := M) (r := r) (Mk := Finset.univ) ?_
  rw [View.setOn_slice]; exact setOn_sub _ _

/-- A store of row block `d` of the result. -/
theorem store_out (c d : Dev nD) (l : List (Dev nD)) {off : Fin 3 → ℕ} {inb : ∀ a, off a + S1x128x1024.size a ≤ S1x1024x1024.size a}
    (hoff : off = ![0, 128 * d.val, 0]) {w : Vec F S1x128x1024 .f32} (hw : w = rowsOf m c d)
    {hx : (outM.access (Rect.unit (s := S1x1024x1024) off S1x128x1024.size inb)).Stores Finset.univ}
    {hm : (Finset.univ : Finset (Rect.unit (s := S1x1024x1024) off S1x128x1024.size inb).shape.Idx) = Finset.univ ∨ ∀ a, (Rect.unit (s := S1x1024x1024) off S1x128x1024.size inb).stride a = 1}
    {k : PUnit → Prog (TpuEff nD τ sig (Elt F) Λ₀ .tc) α} :
    iprop(∃ f, ⌜Good m c l f⌝ ∗ pts c outM fullShare f)
      ⊢ iprop((iprop(∃ f, ⌜Good m c (d :: l) f⌝ ∗ pts c outM fullShare f) -∗ runs c (k ⟨⟩) Q)
        -∗ runs c (.op (.store outM (Rect.unit (s := S1x1024x1024) off S1x128x1024.size inb) w Finset.univ hx hm) k) Q) := by
  iintro ⟨%f, %hf, H⟩ Hk
  iapply (store_whole (F := F) c cc0_stg3_0 (M := outM) rfl) $$ H
  iintro H
  iapply Hk
  iexists _
  isplitr
  · ipureintro; exact good_store m c d l f hf off hoff inb w hw
  iexact H
theorem load_out (c : Dev nD) (l : List (Dev nD)) {r : LoadRect S1x1024x1024} {hl : outM.view.LoadsAt r}
    {k : (r.shape.Idx → Elt F .f32) → Prog (TpuEff nD τ sig (Elt F) Λ₀ .tc) α} :
    iprop(∃ f, ⌜Good m c l f⌝ ∗ pts c outM fullShare f)
      ⊢ iprop((∀ v, iprop(∃ f, ⌜Good m c l f⌝ ∗ pts c outM fullShare f) -∗ runs c (k v) Q) -∗ runs c (.op (.load outM r hl) k) Q) := by
  iintro ⟨%f, %hf, H⟩ Hk
  iapply (load_drop (F := F) c) $$ H
  iintro %v H
  iapply Hk
  iexists f
  isplitr
  · ipureintro; exact hf
  iexact H

end Access

end Cert.KernelIdealProof

end
-- ==== Proof.Parts.lean ====
/-
The parts of the kernel's program at the buffers the launch gives them, and what one step of a family needs: the signal
of the barrier, a transfer of either exchange, the wait for a transfer.
-/
module

public import proofs.«01_k».proof.Proof.Access

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

abbrev P1 := k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P2 := k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P3 := k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P4 := k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P5 := k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P6 := k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P7 := k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P8 := k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P9 := k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P10 := k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P11 := k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P12 := k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P13 := k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P14 := k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P15 := k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P16 := k0_part16 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P17 := k0_part17 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P18 := k0_part18 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P19 := k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P20 := k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P21 := k0_part21 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P22 := k0_part22 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P23 := k0_part23 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11
abbrev P24 := k0_part24 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11

/-- What device `c` needs to signal device `up c s`. -/
def sig1 (c : Dev nD) (s : Fin 7) : sProp 𝕄 :=
  iprop(dutyA (barCell (up c s)) s ∗ ptsAny (F := F) c (rsSlot s) ∗ ptsAny (F := F) c (agSlot s))
/-- What it needs to send device `dn c s` its row block, but for the right to write the slot there. -/
def rs1 (c : Dev nD) (s : Fin 7) : sProp 𝕄 :=
  iprop(dutyA (dmaCell c (rsSs s)) 0 ∗ dutyA (dmaCell (dn c s) (rsRs s)) 0 ∗ ptsAny (F := F) (dn c s) (rsSlot s) ∗ pts c (chunk (dn c s)) fullShare (accR m c))
/-- What it needs to send device `dn c s` its rounded total. -/
def ag1 (c : Dev nD) (s : Fin 7) : sProp 𝕄 :=
  iprop(dutyA (dmaCell c (agSs s)) 0 ∗ dutyA (dmaCell (dn c s) (agRs s)) 0 ∗ ptsAny (F := F) (dn c s) (agSlot s) ∗ pts c agsM (shareTok fullShare 7 s) (totR m c))
/-- What it needs to wait for `N` at its cell `n`. -/
def wait1 (c : Dev nD) (n : DmaSem sig) (N : ℕ) : sProp 𝕄 := iprop(creditA (dmaCell c n) N ∗ atA (dmaCell c n))

section Steps

variable {α : Type} {Q : α → sProp (MT nD τ sig Unit (Elt F) ℕ UU ℕ)} {k : PUnit → Prog (TpuEff nD τ sig (Elt F) Λ₀ .tc) α}

/-- A program that has returned. -/
theorem runs_ret (c : Dev nD) (a : α) : Q a ⊢ runs (F := F) c (.ret a) Q := by
  iintro H
  rw [runs, wp_ret]; imodintro; iexact H

theorem runs_ret_eq (c : Dev nD) (a b : α) (h : a = b) : Q b ⊢ runs (F := F) c (.ret a) Q := h ▸ runs_ret c a

theorem copied (c : Dev nD) (fd : Buf (Elt F) (kM.view.loc (c : Thread nD τ))) :
    iprop(pts c kM fullShare (kM.view.write (Elt F) fd ((kSrc c).view.read (Elt F) (m ((c : Thread nD τ).loc main_arg2))) Finset.univ)
        ∗ pts c (kSrc c) fullShare (m ((c : Thread nD τ).loc main_arg2))) ⊢ dmaPay m c .k := by
  have e : kM.view.write (Elt F) fd ((kSrc c).view.read (Elt F) (m ((c : Thread nD τ).loc main_arg2))) Finset.univ = kat m c :=
    View.write_whole_univ cc0_scratch0 _ _
  rw [e]; exact Entails.refl _
theorem copied_v (c : Dev nD) (fd : Buf (Elt F) (vM.view.loc (c : Thread nD τ))) :
    iprop(pts c vM fullShare (vM.view.write (Elt F) fd ((vSrc c).view.read (Elt F) (m ((c : Thread nD τ).loc main_arg3))) Finset.univ)
        ∗ pts c (vSrc c) fullShare (m ((c : Thread nD τ).loc main_arg3))) ⊢ dmaPay m c .v := by
  have e : vM.view.write (Elt F) fd ((vSrc c).view.read (Elt F) (m ((c : Thread nD τ).loc main_arg3))) Finset.univ = vat m c :=
    View.write_whole_univ cc0_scratch1 _ _
  rw [e]; exact Entails.refl _

theorem do_copy_k (c : Dev nD) {n' : DmaSem sig} (hn' : n' = kS) {hsrc : (kSrc c).view.WordExact} {hdst : kM.view.WordExact}
    {hsem : DmaTarget.Typed (nD := nD) (τ := τ) (p := Proc.tc) .hbm (.dma n') (.here kM)} :
    iprop(know m K ∗ dutyA (dmaCell c kS) 0 ∗ pts c (kSrc c) fullShare (m ((c : Thread nD τ).loc main_arg2)) ∗ ptsAny (F := F) c kM)
      ⊢ iprop((creditA (dmaCell c kS) NK -∗ runs c (k ⟨⟩) Q)
          -∗ runs c (.op (.enqueueDma (kSrc c) (.here kM) (.dma n') hsrc hdst hsem) k) Q) := by
  have h := step_copy (Q := Q) (k := k) m K c kS .k use_k (by decide) (by decide) (src := kSrc c) (dst := kM) hn' (hsrc := hsrc) (hdst := hdst) (hsem := hsem)
    rfl (m ((c : Thread nD τ).loc main_arg2)) (copied m c)
  exact h
theorem do_copy_v (c : Dev nD) {n' : DmaSem sig} (hn' : n' = vS) {hsrc : (vSrc c).view.WordExact} {hdst : vM.view.WordExact}
    {hsem : DmaTarget.Typed (nD := nD) (τ := τ) (p := Proc.tc) .hbm (.dma n') (.here vM)} :
    iprop(know m K ∗ dutyA (dmaCell c vS) 0 ∗ pts c (vSrc c) fullShare (m ((c : Thread nD τ).loc main_arg3)) ∗ ptsAny (F := F) c vM)
      ⊢ iprop((creditA (dmaCell c vS) NK -∗ runs c (k ⟨⟩) Q)
          -∗ runs c (.op (.enqueueDma (vSrc c) (.here vM) (.dma n') hsrc hdst hsem) k) Q) := by
  have h := step_copy (Q := Q) (k := k) m K c vS .v use_v (by decide) (by decide) (src := vSrc c) (dst := vM) hn' (hsrc := hsrc) (hdst := hdst) (hsem := hsem)
    credit_v (m ((c : Thread nD τ).loc main_arg3)) (copied_v m c)
  exact h

theorem do_k (c : Dev nD) (l : List (GSem nD τ sig × ℕ)) (hl : Above 0 l) {n' : DmaSem sig} (hn' : n' = kS)
    {sp : Space} {s₁ : Shape} {e : EltTy} {src : Memref sig .tc sp s₁ e} {hsrc : src.view.WordExact} {hdst : kM.view.WordExact} :
    iprop(know m K ∗ owesL c l ∗ wait1 c kS NK)
      ⊢ iprop((iprop(owesL c l ∗ semVal (dmaCell c kS) 0 ∗ pts c kM fullShare (kat m c) ∗ pts c (kSrc c) fullShare (m ((c : Thread nD τ).loc main_arg2))) -∗ runs c (k ⟨⟩) Q)
          -∗ runs c (.op (.waitDma2 n' src kM hsrc hdst) k) Q) := by
  have h := step_wait (Q := Q) (k := k) m K c kS .k use_k (by decide) 0 (Nat.le_refl 0) l hl n' hn' (src := src) (dst := kM) (hsrc := hsrc) (hdst := hdst) rfl
  unfold wait1; exact h
theorem do_v (c : Dev nD) (l : List (GSem nD τ sig × ℕ)) (hl : Above 0 l) {n' : DmaSem sig} (hn' : n' = vS)
    {sp : Space} {s₁ : Shape} {e : EltTy} {src : Memref sig .tc sp s₁ e} {hsrc : src.view.WordExact} {hdst : vM.view.WordExact} :
    iprop(know m K ∗ owesL c l ∗ wait1 c vS NK)
      ⊢ iprop((iprop(owesL c l ∗ semVal (dmaCell c vS) 0 ∗ pts c vM fullShare (vat m c) ∗ pts c (vSrc c) fullShare (m ((c : Thread nD τ).loc main_arg3))) -∗ runs c (k ⟨⟩) Q)
          -∗ runs c (.op (.waitDma2 n' src vM hsrc hdst) k) Q) := by
  have h := step_wait (Q := Q) (k := k) m K c vS .v use_v (by decide) 0 (Nat.le_refl 0) l hl n' hn' (src := src) (dst := vM) (hsrc := hsrc) (hdst := hdst) rfl
  unfold wait1; exact h

theorem do_signal (c n : Dev nD) (s : Fin 7) (hn : n = up c s) (k' : ℕ) (hk' : 1 = k') (l : List (GSem nD τ sig × ℕ)) :
    iprop(know m K ∗ owesL c ((barCell (up c s), 1) :: l) ∗ sig1 c s)
      ⊢ iprop((owesL c l -∗ runs c (k ⟨⟩) Q) -∗ runs c (.op (.semSignal (n : Thread nD τ) barS k') k) Q) := by
  unfold sig1; exact step_signal m K c n s hn k' hk' l

theorem do_wait (c : Dev nD) (n : DmaSem sig) (u : Use) (hu : useOf n = u) (h6 : 6 ≤ n.val) (lvl : ℕ) (hlvl : useLevel u ≤ lvl)
    (l : List (GSem nD τ sig × ℕ)) (hl : Above lvl l) {n' : DmaSem sig} (hn' : n' = n)
    {sp sp' : Space} {s s' : Shape} {e e' : EltTy} {src : Memref sig .tc sp s e} {dst : Memref sig .tc sp' s' e'}
    {hsrc : src.view.WordExact} {hdst : dst.view.WordExact} (hN : dst.view.dmaCredit = NS) :
    iprop(know m K ∗ owesL c l ∗ wait1 c n NS)
      ⊢ iprop((iprop(owesL c l ∗ semVal (dmaCell c n) 0 ∗ dmaPay m c u) -∗ runs c (k ⟨⟩) Q)
          -∗ runs c (.op (.waitDma2 n' src dst hsrc hdst) k) Q) := by
  have hA : semAmount (.dma n : SemLoc sig) = NS := if_neg (Nat.not_lt.mpr h6)
  have h := step_wait (Q := Q) (k := k) m K c n u hu (Nat.le_trans (by decide) h6) lvl hlvl l hl n' hn' (hsrc := hsrc) (hdst := hdst) (hN.trans hA.symm)
  rw [hA] at h
  unfold wait1; exact h

theorem do_rsR (c : Dev nD) (s : Fin 7) {n' : DmaSem sig} (hn' : n' = rsRs s)
    {sp sp' : Space} {s₁ s₂ : Shape} {e e' : EltTy} {src : Memref sig .tc sp s₁ e} {dst : Memref sig .tc sp' s₂ e'}
    {hsrc : src.view.WordExact} {hdst : dst.view.WordExact} (hN : dst.view.dmaCredit = NS) :
    iprop(know m K ∗ owesL c (agL c downward) ∗ wait1 c (rsRs s) NS)
      ⊢ iprop((iprop(owesL c (agL c downward) ∗ semVal (dmaCell c (rsRs s)) 0 ∗ pts c (rsSlot s) fullShare (rsBuf m c)) -∗ runs c (k ⟨⟩) Q)
          -∗ runs c (.op (.waitDma2 n' src dst hsrc hdst) k) Q) :=
  do_wait m K c (rsRs s) (.rsR s) (use_rsR s) (Nat.le_trans (by decide) (Nat.le_add_right 13 s.val)) 2 (Nat.le_refl 2) (agL c downward)
    (above_ag c downward (by decide)) hn' hN
theorem do_agR (c : Dev nD) (s : Fin 7) {n' : DmaSem sig} (hn' : n' = agRs s)
    {sp sp' : Space} {s₁ s₂ : Shape} {e e' : EltTy} {src : Memref sig .tc sp s₁ e} {dst : Memref sig .tc sp' s₂ e'}
    {hsrc : src.view.WordExact} {hdst : dst.view.WordExact} (hN : dst.view.dmaCredit = NS) :
    iprop(know m K ∗ owesL c [] ∗ wait1 c (agRs s) NS)
      ⊢ iprop((iprop(owesL c [] ∗ semVal (dmaCell c (agRs s)) 0 ∗ pts c (agSlot s) fullShare (agBuf m c)) -∗ runs c (k ⟨⟩) Q)
          -∗ runs c (.op (.waitDma2 n' src dst hsrc hdst) k) Q) :=
  do_wait m K c (agRs s) (.agR s) (use_agR s) (Nat.le_trans (by decide) (Nat.le_add_right 27 s.val)) 3 (Nat.le_refl 3) [] (above_nil 3) hn' hN
theorem do_rsS (c : Dev nD) (s : Fin 7) {n' : DmaSem sig} (hn' : n' = rsSs s)
    {sp sp' : Space} {s₁ s₂ : Shape} {e e' : EltTy} {src : Memref sig .tc sp s₁ e} {dst : Memref sig .tc sp' s₂ e'}
    {hsrc : src.view.WordExact} {hdst : dst.view.WordExact} (hN : dst.view.dmaCredit = NS) :
    iprop(know m K ∗ owesL c [] ∗ wait1 c (rsSs s) NS)
      ⊢ iprop((iprop(owesL c [] ∗ semVal (dmaCell c (rsSs s)) 0 ∗ pts c (chunk (dn c s)) fullShare (accR m c)) -∗ runs c (k ⟨⟩) Q)
          -∗ runs c (.op (.waitDma2 n' src dst hsrc hdst) k) Q) :=
  do_wait m K c (rsSs s) (.rsS s) (use_rsS s) (Nat.le_add_right 6 s.val) 0 (Nat.le_refl 0) [] (above_nil 0) hn' hN
theorem do_agS (c : Dev nD) (s : Fin 7) {n' : DmaSem sig} (hn' : n' = agSs s)
    {sp sp' : Space} {s₁ s₂ : Shape} {e e' : EltTy} {src : Memref sig .tc sp s₁ e} {dst : Memref sig .tc sp' s₂ e'}
    {hsrc : src.view.WordExact} {hdst : dst.view.WordExact} (hN : dst.view.dmaCredit = NS) :
    iprop(know m K ∗ owesL c [] ∗ wait1 c (agSs s) NS)
      ⊢ iprop((iprop(owesL c [] ∗ semVal (dmaCell c (agSs s)) 0 ∗ pts c agsM (shareTok fullShare 7 s) (totR m c)) -∗ runs c (k ⟨⟩) Q)
          -∗ runs c (.op (.waitDma2 n' src dst hsrc hdst) k) Q) :=
  do_wait m K c (agSs s) (.agS s) (use_agS s) (Nat.le_trans (by decide) (Nat.le_add_right 20 s.val)) 0 (Nat.le_refl 0) [] (above_nil 0) hn' hN

/-- The row block at an offset that is device `d`'s. -/
theorem chunk_of {off : Fin 2 → ℕ} {inb : ∀ a, off a + S128x1024.size a ≤ S1024x1024.size a} (d : Dev nD) (h : off = ![128 * d.val, 0]) :
    abfM.slice (Rect.unit (s := S1024x1024) off S128x1024.size inb) (fun _ => rfl) = chunk d := by subst h; rfl

theorem do_rs (c n : Dev nD) (s : Fin 7) (hn : n = dn c s) {off : Fin 2 → ℕ} (hoff : off = ![128 * (dn c s).val, 0])
    {inb : ∀ a, off a + S128x1024.size a ≤ S1024x1024.size a} (l : List (GSem nD τ sig × ℕ))
    {dst : Memref sig .tc .vmem S128x1024 .bf16} (hdst' : dst = rsSlot s)
    {nS nR : DmaSem sig} (hS : nS = rsSs s) (hR : nR = rsRs s)
    {hsc : (dst : Memref sig (Dev.tc n : Thread nD τ).2.kind .vmem S128x1024 .bf16).view.ref.isScScratch = false}
    {hsrc : (abfM.slice (Rect.unit (s := S1024x1024) off S128x1024.size inb) (fun _ => rfl) : Memref sig .tc .vmem S128x1024 .bf16).view.WordExact} {hdst : dst.view.WordExact}
    {hsem : DmaTarget.Typed .vmem (.dma nR) (.remote (Dev.tc n : Thread nD τ) (dst : Memref sig (Dev.tc n : Thread nD τ).2.kind .vmem S128x1024 .bf16) (.dma nS) hsc)} :
    iprop(know m K ∗ owesL c ((dmaCell (dn c s) (rsRs s), NS) :: l) ∗ rs1 m c s)
      ⊢ iprop((iprop(owesL c l ∗ creditA (dmaCell c (rsSs s)) NS) -∗ runs c (k ⟨⟩) Q)
          -∗ runs c (.op (.enqueueDma (abfM.slice (Rect.unit (s := S1024x1024) off S128x1024.size inb) (fun _ => rfl)) (.remote (Dev.tc n : Thread nD τ) dst (.dma nS) hsc) (.dma nR) hsrc hdst hsem) k) Q) := by
  unfold rs1
  exact step_rs m K c n s hn l (chunk_of _ hoff) hdst' hS hR

theorem do_ag (c n : Dev nD) (s : Fin 7) (hn : n = dn c s) (l : List (GSem nD τ sig × ℕ))
    {dst : Memref sig .tc .vmem S128x1024 .bf16} (hdst' : dst = agSlot s)
    {nS nR : DmaSem sig} (hS : nS = agSs s) (hR : nR = agRs s)
    {hsc : (dst : Memref sig (Dev.tc n : Thread nD τ).2.kind .vmem S128x1024 .bf16).view.ref.isScScratch = false}
    {hsrc : agsM.view.WordExact} {hdst : dst.view.WordExact}
    {hsem : DmaTarget.Typed .vmem (.dma nR) (.remote (Dev.tc n : Thread nD τ) (dst : Memref sig (Dev.tc n : Thread nD τ).2.kind .vmem S128x1024 .bf16) (.dma nS) hsc)} :
    iprop(know m K ∗ owesL c ((dmaCell (dn c s) (agRs s), NS) :: l) ∗ ag1 m c s)
      ⊢ iprop((iprop(owesL c l ∗ creditA (dmaCell c (agSs s)) NS) -∗ runs c (k ⟨⟩) Q)
          -∗ runs c (.op (.enqueueDma agsM (.remote (Dev.tc n : Thread nD τ) dst (.dma nS) hsc) (.dma nR) hsrc hdst hsem) k) Q) := by
  unfold ag1
  exact step_ag m K c n s hn l hdst' hS hR

end Steps

/-! ## The devices, row blocks and rectangles the program names, in closed form -/

theorem to_up1 (c : Dev nD) : (⟨k0_dev1 c, k0_dev1_lt c⟩ : Dev nD) = up c 0 := Fin.ext (k0_dev1_eq c)
theorem to_up2 (c : Dev nD) : (⟨k0_dev2 c, k0_dev2_lt c⟩ : Dev nD) = up c 1 := Fin.ext (k0_dev2_eq c)
theorem to_up3 (c : Dev nD) : (⟨k0_dev3 c, k0_dev3_lt c⟩ : Dev nD) = up c 2 := Fin.ext (k0_dev3_eq c)
theorem to_up4 (c : Dev nD) : (⟨k0_dev4 c, k0_dev4_lt c⟩ : Dev nD) = up c 3 := Fin.ext (k0_dev4_eq c)
theorem to_up5 (c : Dev nD) : (⟨k0_dev5 c, k0_dev5_lt c⟩ : Dev nD) = up c 4 := Fin.ext (k0_dev5_eq c)
theorem to_up6 (c : Dev nD) : (⟨k0_dev6 c, k0_dev6_lt c⟩ : Dev nD) = up c 5 := Fin.ext (k0_dev6_eq c)
theorem to_up7 (c : Dev nD) : (⟨k0_dev7 c, k0_dev7_lt c⟩ : Dev nD) = up c 6 := Fin.ext (k0_dev7_eq c)
theorem to_rs1 (c : Dev nD) : (⟨k0_dev8 c, k0_dev8_lt c⟩ : Dev nD) = dn c 6 := Fin.ext (k0_dev8_eq c)
theorem to_rs2 (c : Dev nD) : (⟨k0_dev9 c, k0_dev9_lt c⟩ : Dev nD) = dn c 5 := Fin.ext (k0_dev9_eq c)
theorem to_rs3 (c : Dev nD) : (⟨k0_dev10 c, k0_dev10_lt c⟩ : Dev nD) = dn c 4 := Fin.ext (k0_dev10_eq c)
theorem to_rs4 (c : Dev nD) : (⟨k0_dev11 c, k0_dev11_lt c⟩ : Dev nD) = dn c 3 := Fin.ext (k0_dev11_eq c)
theorem to_rs5 (c : Dev nD) : (⟨k0_dev12 c, k0_dev12_lt c⟩ : Dev nD) = dn c 2 := Fin.ext (k0_dev12_eq c)
theorem to_rs6 (c : Dev nD) : (⟨k0_dev13 c, k0_dev13_lt c⟩ : Dev nD) = dn c 1 := Fin.ext (k0_dev13_eq c)
theorem to_rs7 (c : Dev nD) : (⟨k0_dev14 c, k0_dev14_lt c⟩ : Dev nD) = dn c 0 := Fin.ext (k0_dev14_eq c)
theorem to_ag1 (c : Dev nD) : (⟨k0_dev15 c, k0_dev15_lt c⟩ : Dev nD) = dn c 6 := Fin.ext (k0_dev15_eq c)
theorem to_ag2 (c : Dev nD) : (⟨k0_dev16 c, k0_dev16_lt c⟩ : Dev nD) = dn c 5 := Fin.ext (k0_dev16_eq c)
theorem to_ag3 (c : Dev nD) : (⟨k0_dev17 c, k0_dev17_lt c⟩ : Dev nD) = dn c 4 := Fin.ext (k0_dev17_eq c)
theorem to_ag4 (c : Dev nD) : (⟨k0_dev18 c, k0_dev18_lt c⟩ : Dev nD) = dn c 3 := Fin.ext (k0_dev18_eq c)
theorem to_ag5 (c : Dev nD) : (⟨k0_dev19 c, k0_dev19_lt c⟩ : Dev nD) = dn c 2 := Fin.ext (k0_dev19_eq c)
theorem to_ag6 (c : Dev nD) : (⟨k0_dev20 c, k0_dev20_lt c⟩ : Dev nD) = dn c 1 := Fin.ext (k0_dev20_eq c)
theorem to_ag7 (c : Dev nD) : (⟨k0_dev21 c, k0_dev21_lt c⟩ : Dev nD) = dn c 0 := Fin.ext (k0_dev21_eq c)
theorem rows_rs1 (c : Dev nD) : k0_off2 c 1#32 = ![128 * (dn c 6).val, 0] := k0_off2_eq c 0
theorem rows_rs2 (c : Dev nD) : k0_off2 c 2#32 = ![128 * (dn c 5).val, 0] := k0_off2_eq c 1
theorem rows_rs3 (c : Dev nD) : k0_off2 c 3#32 = ![128 * (dn c 4).val, 0] := k0_off2_eq c 2
theorem rows_rs4 (c : Dev nD) : k0_off2 c 4#32 = ![128 * (dn c 3).val, 0] := k0_off2_eq c 3
theorem rows_rs5 (c : Dev nD) : k0_off2 c 5#32 = ![128 * (dn c 2).val, 0] := k0_off2_eq c 4
theorem rows_rs6 (c : Dev nD) : k0_off2 c 6#32 = ![128 * (dn c 1).val, 0] := k0_off2_eq c 5
theorem rows_rs7 (c : Dev nD) : k0_off2 c 7#32 = ![128 * (dn c 0).val, 0] := k0_off2_eq c 6
theorem rows_ag1 (c : Dev nD) : k0_off5 c 1#32 = ![0, 128 * (up c 6).val, 0] := by revert c; decide +kernel
theorem rows_ag2 (c : Dev nD) : k0_off5 c 2#32 = ![0, 128 * (up c 5).val, 0] := by revert c; decide +kernel
theorem rows_ag3 (c : Dev nD) : k0_off5 c 3#32 = ![0, 128 * (up c 4).val, 0] := by revert c; decide +kernel
theorem rows_ag4 (c : Dev nD) : k0_off5 c 4#32 = ![0, 128 * (up c 3).val, 0] := by revert c; decide +kernel
theorem rows_ag5 (c : Dev nD) : k0_off5 c 5#32 = ![0, 128 * (up c 2).val, 0] := by revert c; decide +kernel
theorem rows_ag6 (c : Dev nD) : k0_off5 c 6#32 = ![0, 128 * (up c 1).val, 0] := by revert c; decide +kernel
theorem rows_ag7 (c : Dev nD) : k0_off5 c 7#32 = ![0, 128 * (up c 0).val, 0] := by revert c; decide +kernel

end Cert.KernelIdealProof

end
-- ==== Proof.Body1.lean ====
/-
The first parts of the body: the barrier with the other devices, the copies of the device's heads, and the loads they precede.
-/
module

public import proofs.«01_k».proof.Proof.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

theorem part1 (c : Dev nD) (l : List (GSem nD τ sig × ℕ)) (Φ) :
    iprop(know m K ∗ owesL c (barL c upward ++ l) ∗ (sig1 (F := F) c 0 ∗ sig1 (F := F) c 1 ∗ sig1 (F := F) c 2 ∗ sig1 (F := F) c 3 ∗ sig1 (F := F) c 4)
        ∗ (∀ v2 v3 v24 c8, ⌜v3.sem = barS⌝ -∗ owesL c (barL c [5, 6] ++ l) -∗ Φ ⟨c, v2, v3, v24, c8⟩))
      ⊢ runs c (P1 (F := F)) Φ := by
  unfold P1; rw [k0_part1_eq_skeleton]; unfold k0_part1_skel
  simp only [semSignalWord, semWaitWord, Prog.lift, Prog.bind_op, Prog.bind_ret, Prog.pure_eq_ret, wp_deviceId]
  simp only [barL, List.map_cons, List.cons_append]
  iintro ⟨#Hk, HO, ⟨H0, H1, H2, H3, H4⟩, Hc⟩
  iapply (do_signal m K c _ 0 (to_up1 c) _ (by decide) _) $$ [HO H0]
  · isplitr; · iexact Hk
    isplitl [HO]; · iexact HO
    iexact H0
  iintro HO
  iapply (do_signal m K c _ 1 (to_up2 c) _ (by decide) _) $$ [HO H1]
  · isplitr; · iexact Hk
    isplitl [HO]; · iexact HO
    iexact H1
  iintro HO
  iapply (do_signal m K c _ 2 (to_up3 c) _ (by decide) _) $$ [HO H2]
  · isplitr; · iexact Hk
    isplitl [HO]; · iexact HO
    iexact H2
  iintro HO
  iapply (do_signal m K c _ 3 (to_up4 c) _ (by decide) _) $$ [HO H3]
  · isplitr; · iexact Hk
    isplitl [HO]; · iexact HO
    iexact H3
  iintro HO
  iapply (do_signal m K c _ 4 (to_up5 c) _ (by decide) _) $$ [HO H4]
  · isplitr; · iexact Hk
    isplitl [HO]; · iexact HO
    iexact H4
  iintro HO
  iapply (runs_ret c)
  iapply Hc
  · ipureintro; rfl
  iexact HO

theorem part2 (c : Dev nD) (v2 v3 v24 c8) (h3 : SemArray.sem v3 = barS) (Φ) :
    iprop(know m K ∗ owesL c (barL c [5, 6] ++ (rsL c downward ++ agL c downward)) ∗ (sig1 (F := F) c 5 ∗ sig1 (F := F) c 6)
        ∗ (creditA (barCell c) 7 ∗ atA (barCell c))
        ∗ (dutyA (dmaCell c kS) 0 ∗ pts c (kSrc c) fullShare (m ((c : Thread nD τ).loc main_arg2)) ∗ ptsAny (F := F) c kM)
        ∗ (dutyA (dmaCell c vS) 0 ∗ pts c (vSrc c) fullShare (m ((c : Thread nD τ).loc main_arg3)) ∗ ptsAny (F := F) c vM)
        ∗ pts c xM fullShare (xstg m c) ∗ pts c wqM fullShare (wqstg m c)
        ∗ (iprop(owesL c (rsL c downward ++ agL c downward) ∗ semVal (barCell c) 0 ∗ bigSep Finset.univ (barPay (F := F) c)
              ∗ creditA (dmaCell c kS) NK ∗ creditA (dmaCell c vS) NK ∗ pts c xM fullShare (xstg m c) ∗ pts c wqM fullShare (wqstg m c))
            -∗ Φ ⟨qAll m c, rowIx, colIx, k0_pay2, 128#32⟩))
      ⊢ runs c (P2 (F := F) c v2 v3 v24 c8) Φ := by
  unfold P2; rw [k0_part2_eq_skeleton]; unfold k0_part2_skel
  simp only [semSignalWord, semWaitWord, Prog.lift, Prog.bind_op, Prog.bind_ret, Prog.pure_eq_ret, wp_deviceId]
  simp only [h3, barL, List.map_cons, List.map_nil, List.cons_append, List.nil_append]
  unfold qAll
  iintro ⟨#Hk, HO, ⟨H5, H6⟩, ⟨HcB, HaB⟩, ⟨HtK, HsK, HdK⟩, ⟨HtV, HsV, HdV⟩, Hx, Hw, Hc⟩
  iapply (do_signal m K c _ 5 (to_up6 c) _ (by decide) _) $$ [HO H5]
  · isplitr; · iexact Hk
    isplitl [HO]; · iexact HO
    iexact H5
  iintro HO
  iapply (do_signal m K c _ 6 (to_up7 c) _ (by decide) _) $$ [HO H6]
  · isplitr; · iexact Hk
    isplitl [HO]; · iexact HO
    iexact H6
  iintro HO
  iapply (step_bar m K c _ (by decide) _ (above_append (above_rs c downward (by decide)) (above_ag c downward (by decide)))) $$ [HO HcB HaB]
  · isplitr; · iexact Hk
    isplitl [HO]; · iexact HO
    isplitl [HcB] <;> iassumption
  iintro ⟨HO, HzB, Hpay⟩
  iapply (do_copy_k m K c rfl) $$ [HtK HsK HdK]
  · isplitr; · iexact Hk
    isplitl [HtK]; · iexact HtK
    isplitl [HsK] <;> iassumption
  iintro HcK
  iapply (do_copy_v m K c rfl) $$ [HtV HsV HdV]
  · isplitr; · iexact Hk
    isplitl [HtV]; · iexact HtV
    isplitl [HsV] <;> iassumption
  iintro HcV
  iapply (load_x m c hz3) $$ Hx; iintro Hx
  iapply (load_wq m c hz2) $$ Hw; iintro Hw
  iapply (runs_ret c)
  iapply Hc
  isplitl [HO]; · iexact HO
  isplitl [HzB]; · iexact HzB
  isplitl [Hpay]; · iexact Hpay
  isplitl [HcK]; · iexact HcK
  isplitl [HcV]; · iexact HcV
  isplitl [Hx] <;> iassumption

/-- The heads' operands in their buffers. -/
def heads (c : Dev nD) : sProp 𝕄 := iprop(pts c kM fullShare (kat m c) ∗ pts c vM fullShare (vat m c) ∗ pts c woM fullShare (wostg m c))

theorem part3 (c : Dev nD) (Φ) :
    iprop(know m K ∗ owesL c (rsL c downward ++ agL c downward) ∗ wait1 c kS NK ∗ wait1 c vS NK
        ∗ (iprop(owesL c (rsL c downward ++ agL c downward) ∗ (semVal (dmaCell c kS) 0 ∗ semVal (dmaCell c vS) 0)
              ∗ (pts c (kSrc c) fullShare (m ((c : Thread nD τ).loc main_arg2)) ∗ pts c (vSrc c) fullShare (m ((c : Thread nD τ).loc main_arg3)))
              ∗ pts c kM fullShare (kat m c) ∗ pts c vM fullShare (vat m c))
            -∗ Φ ⟨keep, k0_pay4, k0_pay5 (qAll m c) rowIx colIx k0_pay2 128#32 (kHead m c 0)⟩))
      ⊢ runs c (P3 (F := F) c (qAll m c) rowIx colIx k0_pay2 128#32) Φ := by
  unfold P3; rw [k0_part3_eq_skeleton]; unfold k0_part3_skel
  simp only [semSignalWord, semWaitWord, Prog.lift, Prog.bind_op, Prog.bind_ret, Prog.pure_eq_ret, wp_deviceId]
  iintro ⟨#Hk, HO, HwK, HwV, Hc⟩
  iapply (do_k m K c _ (above_append (above_rs c downward (by decide)) (above_ag c downward (by decide))) rfl) $$ [HO HwK]
  · isplitr; · iexact Hk
    isplitl [HO] <;> iassumption
  iintro ⟨HO, HzK, HK, HsK⟩
  iapply (do_v m K c _ (above_append (above_rs c downward (by decide)) (above_ag c downward (by decide))) rfl) $$ [HO HwV]
  · isplitr; · iexact Hk
    isplitl [HO] <;> iassumption
  iintro ⟨HO, HzV, HV, HsV⟩
  iapply (load_k m c 0 rfl) $$ HK; iintro HK
  iapply (runs_ret c)
  iapply Hc
  isplitl [HO]; · iexact HO
  isplitl [HzK HzV]; · isplitl [HzK] <;> iassumption
  isplitl [HsK HsV]; · isplitl [HsK] <;> iassumption
  isplitl [HK] <;> iassumption

theorem part4 (c : Dev nD) (Φ) :
    iprop(heads m c ∗ (heads m c -∗ Φ (sum2 m c)))
      ⊢ runs c (P4 (F := F) (qAll m c) keep k0_pay4 (k0_pay5 (qAll m c) rowIx colIx k0_pay2 128#32 (kHead m c 0))) Φ := by
  unfold P4; rw [k0_part4_eq_skeleton]; unfold k0_part4_skel
  simp only [semSignalWord, semWaitWord, Prog.lift, Prog.bind_op, Prog.bind_ret, Prog.pure_eq_ret, wp_deviceId]
  unfold heads sum2
  iintro ⟨⟨HK, HV, HW⟩, Hc⟩
  iapply (load_v m c 0 rfl) $$ HV; iintro HV
  iapply (load_w m c 0 rfl) $$ HW; iintro HW
  iapply (load_k m c 1 rfl) $$ HK; iintro HK
  iapply (load_v m c 1 rfl) $$ HV; iintro HV
  iapply (load_w m c 1 rfl) $$ HW; iintro HW
  iapply (runs_ret c)
  iapply Hc
  isplitl [HK]; · iexact HK
  isplitl [HV] <;> iassumption

theorem part5 (c : Dev nD) (Φ) :
    iprop(heads m c ∗ (heads m c -∗ Φ ⟨sum3 m c, k0_pay8 (qAll m c) (kHead m c 3), k0_pay9⟩))
      ⊢ runs c (P5 (F := F) (qAll m c) keep (sum2 m c)) Φ := by
  unfold P5; rw [k0_part5_eq_skeleton]; unfold k0_part5_skel
  simp only [semSignalWord, semWaitWord, Prog.lift, Prog.bind_op, Prog.bind_ret, Prog.pure_eq_ret, wp_deviceId]
  unfold heads sum3
  iintro ⟨⟨HK, HV, HW⟩, Hc⟩
  iapply (load_k m c 2 rfl) $$ HK; iintro HK
  iapply (load_v m c 2 rfl) $$ HV; iintro HV
  iapply (load_w m c 2 rfl) $$ HW; iintro HW
  iapply (load_k m c 3 rfl) $$ HK; iintro HK
  iapply (runs_ret c)
  iapply Hc
  isplitl [HK]; · iexact HK
  isplitl [HV] <;> iassumption

theorem part6 (c : Dev nD) (Φ) :
    iprop(heads m c ∗ (heads m c -∗ Φ ⟨sum4 m c, k0_pay11 (qAll m c) keep (kHead m c 4)⟩))
      ⊢ runs c (P6 (F := F) (qAll m c) keep (sum3 m c) (k0_pay8 (qAll m c) (kHead m c 3)) k0_pay9) Φ := by
  unfold P6; rw [k0_part6_eq_skeleton]; unfold k0_part6_skel
  simp only [semSignalWord, semWaitWord, Prog.lift, Prog.bind_op, Prog.bind_ret, Prog.pure_eq_ret, wp_deviceId]
  unfold heads sum4
  iintro ⟨⟨HK, HV, HW⟩, Hc⟩
  iapply (load_v m c 3 rfl) $$ HV; iintro HV
  iapply (load_w m c 3 rfl) $$ HW; iintro HW
  iapply (load_k m c 4 rfl) $$ HK; iintro HK
  iapply (runs_ret c)
  iapply Hc
  isplitl [HK]; · iexact HK
  isplitl [HV] <;> iassumption

theorem part7 (c : Dev nD) (Φ) :
    iprop(heads m c ∗ (heads m c -∗ Φ (sum6 m c)))
      ⊢ runs c (P7 (F := F) (qAll m c) keep (sum4 m c) (k0_pay11 (qAll m c) keep (kHead m c 4))) Φ := by
  unfold P7; rw [k0_part7_eq_skeleton]; unfold k0_part7_skel
  simp only [semSignalWord, semWaitWord, Prog.lift, Prog.bind_op, Prog.bind_ret, Prog.pure_eq_ret, wp_deviceId]
  unfold heads sum6
  iintro ⟨⟨HK, HV, HW⟩, Hc⟩
  iapply (load_v m c 4 rfl) $$ HV; iintro HV
  iapply (load_w m c 4 rfl) $$ HW; iintro HW
  iapply (load_k m c 5 rfl) $$ HK; iintro HK
  iapply (load_v m c 5 rfl) $$ HV; iintro HV
  iapply (load_w m c 5 rfl) $$ HW; iintro HW
  iapply (runs_ret c)
  iapply Hc
  isplitl [HK]; · iexact HK
  isplitl [HV] <;> iassumption

theorem part8 (c : Dev nD) (Φ) :
    iprop(heads m c ∗ (heads m c -∗ Φ ⟨sum7 m c, k0_pay14 (qAll m c) (kHead m c 7), k0_pay15⟩))
      ⊢ runs c (P8 (F := F) (qAll m c) keep (sum6 m c)) Φ := by
  unfold P8; rw [k0_part8_eq_skeleton]; unfold k0_part8_skel
  simp only [semSignalWord, semWaitWord, Prog.lift, Prog.bind_op, Prog.bind_ret, Prog.pure_eq_ret, wp_deviceId]
  unfold heads sum7
  iintro ⟨⟨HK, HV, HW⟩, Hc⟩
  iapply (load_k m c 6 rfl) $$ HK; iintro HK
  iapply (load_v m c 6 rfl) $$ HV; iintro HV
  iapply (load_w m c 6 rfl) $$ HW; iintro HW
  iapply (load_k m c 7 rfl) $$ HK; iintro HK
  iapply (runs_ret c)
  iapply Hc
  isplitl [HK]; · iexact HK
  isplitl [HV] <;> iassumption

theorem part9 (c : Dev nD) (v2) (Φ) :
    iprop(heads m c ∗ ptsAny (F := F) c accM ∗ ptsAny (F := F) c abfM
        ∗ (∀ v, iprop(heads m c ∗ pts c accM fullShare (acc m c) ∗ pts c abfM fullShare (accR m c)) -∗ Φ v))
      ⊢ runs c (P9 (F := F) v2 keep (sum7 m c) (k0_pay14 (qAll m c) (kHead m c 7)) k0_pay15) Φ := by
  unfold P9; rw [k0_part9_eq_skeleton]; unfold k0_part9_skel
  simp only [semSignalWord, semWaitWord, Prog.lift, Prog.bind_op, Prog.bind_ret, Prog.pure_eq_ret, wp_deviceId]
  unfold heads
  iintro ⟨⟨HK, HV, HW⟩, ⟨%fa, HA⟩, ⟨%fb, HB⟩, Hc⟩
  iapply (load_v m c 7 rfl) $$ HV; iintro HV
  iapply (load_w m c 7 rfl) $$ HW; iintro HW
  iapply (load_drop (F := F) c) $$ HA; iintro %va HA
  iapply (store_whole (F := F) c cc0_scratch2 (g := acc m c) (Memref.write_access_unit_zero_univ (Elt F) cc0_scratch2 hz2 _ fa (acc m c))) $$ HA; iintro HA
  iapply (load_drop (F := F) c) $$ HB; iintro %vb HB
  iapply (store_whole (F := F) c cc0_scratch3 (g := accR m c) (Memref.write_access_unit_zero_univ (Elt F) cc0_scratch3 hz2 _ fb (accR m c))) $$ HB; iintro HB
  iapply (runs_ret c)
  iapply Hc
  isplitl [HK HV HW]
  · isplitl [HK]; · iexact HK
    isplitl [HV] <;> iassumption
  isplitl [HA] <;> iassumption

end Cert.KernelIdealProof

end
-- ==== Proof.Body2.lean ====
/-
The middle parts of the body: the first exchange, the total of the device's own row block, and the sends of the second
exchange.
-/
module

public import proofs.«01_k».proof.Proof.Body1

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

/-- What a device has of slot `s` once it has arrived: the slot as filled, and the cell's counter, back at zero. -/
def got (c : Dev nD) (s : Fin 7) : sProp 𝕄 := iprop(semVal (dmaCell c (rsRs s)) 0 ∗ pts c (rsSlot s) fullShare (rsBuf m c))
def gotA (c : Dev nD) (s : Fin 7) : sProp 𝕄 := iprop(semVal (dmaCell c (agRs s)) 0 ∗ pts c (agSlot s) fullShare (agBuf m c))
/-- What it has again once a send has departed. -/
def back (c : Dev nD) (s : Fin 7) : sProp 𝕄 := iprop(semVal (dmaCell c (rsSs s)) 0 ∗ pts c (chunk (dn c s)) fullShare (accR m c))
def backA (c : Dev nD) (s : Fin 7) : sProp 𝕄 := iprop(semVal (dmaCell c (agSs s)) 0 ∗ pts c agsM (shareTok fullShare 7 s) (totR m c))
/-- What a send of the second exchange needs but for its source. -/
def agIn (c : Dev nD) (s : Fin 7) : sProp 𝕄 :=
  iprop(dutyA (dmaCell c (agSs s)) 0 ∗ dutyA (dmaCell (dn c s) (agRs s)) 0 ∗ ptsAny (F := F) (dn c s) (agSlot s))
/-- The result buffer, right on the row blocks `l`. -/
def res (c : Dev nD) (l : List (Dev nD)) : sProp 𝕄 := iprop(∃ f, ⌜Good m c l f⌝ ∗ pts c outM fullShare f)

theorem ag1_intro (c : Dev nD) (s : Fin 7) : iprop(agIn (F := F) c s ∗ pts c agsM (shareTok fullShare 7 s) (totR m c)) ⊢ ag1 m c s := by
  unfold agIn ag1
  iintro ⟨⟨H1, H2, H3⟩, H4⟩
  isplitl [H1]; · iexact H1
  isplitl [H2]; · iexact H2
  isplitl [H3] <;> iassumption

/-- The seven slots one by one, in the order the sends take them. -/
theorem seven (Φ : Fin 7 → sProp 𝕄) : bigSep Finset.univ Φ = iprop(Φ 6 ∗ Φ 5 ∗ Φ 4 ∗ Φ 3 ∗ Φ 2 ∗ Φ 1 ∗ Φ 0) :=
  bigSep_univ_eq_bigSepL [6, 5, 4, 3, 2, 1, 0] (by decide) (by decide) Φ

theorem ags_split (c : Dev nD) (f) : pts (F := F) c agsM fullShare f
    ⊢ iprop(pts c agsM (shareDrop fullShare 7) f ∗ pts (F := F) c agsM (shareTok fullShare 7 6) f ∗ pts (F := F) c agsM (shareTok fullShare 7 5) f ∗ pts (F := F) c agsM (shareTok fullShare 7 4) f ∗ pts (F := F) c agsM (shareTok fullShare 7 3) f ∗ pts (F := F) c agsM (shareTok fullShare 7 2) f ∗ pts (F := F) c agsM (shareTok fullShare 7 1) f ∗ pts (F := F) c agsM (shareTok fullShare 7 0) f) := by
  have h : pts (F := F) c agsM fullShare f
      ⊢ iprop(pts c agsM (shareDrop fullShare 7) f ∗ bigSep Finset.univ fun s : Fin 7 => pts (F := F) c agsM (shareTok fullShare 7 s) f) :=
    Idealize.ShloMosaic.Transfers.pointsTo_toks_split fullShare 7
  rwa [seven] at h
theorem ags_join (c : Dev nD) (f) : iprop(pts c agsM (shareDrop fullShare 7) f ∗ pts (F := F) c agsM (shareTok fullShare 7 6) f ∗ pts (F := F) c agsM (shareTok fullShare 7 5) f ∗ pts (F := F) c agsM (shareTok fullShare 7 4) f ∗ pts (F := F) c agsM (shareTok fullShare 7 3) f ∗ pts (F := F) c agsM (shareTok fullShare 7 2) f ∗ pts (F := F) c agsM (shareTok fullShare 7 1) f ∗ pts (F := F) c agsM (shareTok fullShare 7 0) f)
    ⊢ pts (F := F) c agsM fullShare f := by
  have h : iprop(pts c agsM (shareDrop fullShare 7) f ∗ bigSep Finset.univ fun s : Fin 7 => pts (F := F) c agsM (shareTok fullShare 7 s) f)
      ⊢ pts (F := F) c agsM fullShare f :=
    Idealize.ShloMosaic.Transfers.pointsTo_toks_join fullShare 7
  rwa [seven] at h

theorem part10 (c : Dev nD) (v2) (Φ) :
    iprop(know m K ∗ owesL c (rsL c downward ++ agL c downward) ∗ (rs1 m c 6 ∗ rs1 m c 5 ∗ rs1 m c 4)
        ∗ (∀ v, iprop(owesL c (rsL c [3, 2, 1, 0] ++ agL c downward) ∗ creditA (F := F) (dmaCell c (rsSs 6)) NS ∗ creditA (F := F) (dmaCell c (rsSs 5)) NS ∗ creditA (F := F) (dmaCell c (rsSs 4)) NS) -∗ Φ v))
      ⊢ runs c (P10 (F := F) c v2) Φ := by
  unfold P10; rw [k0_part10_eq_skeleton]; unfold k0_part10_skel
  simp only [semSignalWord, semWaitWord, Prog.lift, Prog.bind_op, Prog.bind_ret, Prog.pure_eq_ret, wp_deviceId]
  simp only [rsL, agL, List.map_cons, List.map_nil, List.cons_append, List.nil_append]
  iintro ⟨#Hk, HO, ⟨H6, H5, H4⟩, Hc⟩
  iapply (do_rs m K c _ 6 (to_rs1 c) (rows_rs1 c) _ rfl rfl rfl) $$ [HO H6]
  · isplitr; · iexact Hk
    isplitl [HO] <;> iassumption
  iintro ⟨HO, C6⟩
  iapply (do_rs m K c _ 5 (to_rs2 c) (rows_rs2 c) _ rfl rfl rfl) $$ [HO H5]
  · isplitr; · iexact Hk
    isplitl [HO] <;> iassumption
  iintro ⟨HO, C5⟩
  iapply (do_rs m K c _ 4 (to_rs3 c) (rows_rs3 c) _ rfl rfl rfl) $$ [HO H4]
  · isplitr; · iexact Hk
    isplitl [HO] <;> iassumption
  iintro ⟨HO, C4⟩
  iapply (runs_ret c)
  iapply Hc
  isplitl [HO]; · iexact HO
  isplitl [C6]; · iexact C6
  isplitl [C5] <;> iassumption

theorem part11 (c : Dev nD) (v2 v354 c8) (Φ) :
    iprop(know m K ∗ owesL c (rsL c [3, 2, 1, 0] ++ agL c downward) ∗ (rs1 m c 3 ∗ rs1 m c 2)
        ∗ (∀ v, iprop(owesL c (rsL c [1, 0] ++ agL c downward) ∗ creditA (F := F) (dmaCell c (rsSs 3)) NS ∗ creditA (F := F) (dmaCell c (rsSs 2)) NS) -∗ Φ v))
      ⊢ runs c (P11 (F := F) c v2 v354 c8) Φ := by
  unfold P11; rw [k0_part11_eq_skeleton]; unfold k0_part11_skel
  simp only [semSignalWord, semWaitWord, Prog.lift, Prog.bind_op, Prog.bind_ret, Prog.pure_eq_ret, wp_deviceId]
  simp only [rsL, agL, List.map_cons, List.map_nil, List.cons_append, List.nil_append]
  iintro ⟨#Hk, HO, ⟨H3, H2⟩, Hc⟩
  iapply (do_rs m K c _ 3 (to_rs4 c) (rows_rs4 c) _ rfl rfl rfl) $$ [HO H3]
  · isplitr; · iexact Hk
    isplitl [HO] <;> iassumption
  iintro ⟨HO, C3⟩
  iapply (do_rs m K c _ 2 (to_rs5 c) (rows_rs5 c) _ rfl rfl rfl) $$ [HO H2]
  · isplitr; · iexact Hk
    isplitl [HO] <;> iassumption
  iintro ⟨HO, C2⟩
  iapply (runs_ret c)
  iapply Hc
  isplitl [HO]; · iexact HO
  isplitl [C3] <;> iassumption

theorem part12 (c : Dev nD) (v2 v318) (Φ) :
    iprop(know m K ∗ owesL c (rsL c [1, 0] ++ agL c downward) ∗ (rs1 m c 1 ∗ rs1 m c 0) ∗ pts c accM fullShare (acc m c) ∗ wait1 (F := F) c (rsRs 6) NS
        ∗ (∀ v, iprop(owesL c (agL c downward) ∗ creditA (F := F) (dmaCell c (rsSs 1)) NS ∗ creditA (F := F) (dmaCell c (rsSs 0)) NS ∗ pts c accM fullShare (acc m c) ∗ got m c 6)
            -∗ Φ ⟨v, k0_pay19 (ownRows m c) (rsRead m c 6)⟩))
      ⊢ runs c (P12 (F := F) c v2 v318) Φ := by
  unfold P12; rw [k0_part12_eq_skeleton]; unfold k0_part12_skel
  simp only [semSignalWord, semWaitWord, Prog.lift, Prog.bind_op, Prog.bind_ret, Prog.pure_eq_ret, wp_deviceId]
  simp only [rsL, List.map_cons, List.map_nil, List.cons_append, List.nil_append]
  unfold got
  iintro ⟨#Hk, HO, ⟨H1, H0⟩, HA, W6, Hc⟩
  iapply (do_rs m K c _ 1 (to_rs6 c) (rows_rs6 c) _ rfl rfl rfl) $$ [HO H1]
  · isplitr; · iexact Hk
    isplitl [HO] <;> iassumption
  iintro ⟨HO, C1⟩
  iapply (do_rs m K c _ 0 (to_rs7 c) (rows_rs7 c) _ rfl rfl rfl) $$ [HO H0]
  · isplitr; · iexact Hk
    isplitl [HO] <;> iassumption
  iintro ⟨HO, C0⟩
  iapply (load_acc m c) $$ HA; iintro HA
  iapply (do_rsR m K c 6 rfl (credit_rs 6)) $$ [HO W6]
  · isplitr; · iexact Hk
    isplitl [HO] <;> iassumption
  iintro ⟨HO, Z6, B6⟩
  iapply (load_rs m c 6 rfl) $$ B6; iintro B6
  iapply (runs_ret c)
  iapply Hc
  isplitl [HO]; · iexact HO
  isplitl [C1]; · iexact C1
  isplitl [C0]; · iexact C0
  isplitl [HA]; · iexact HA
  isplitl [Z6] <;> iassumption

theorem part13 (c : Dev nD) (v330 v342 v354) (Φ) :
    iprop(know m K ∗ owesL c (agL c downward) ∗ wait1 (F := F) c (rsRs 5) NS ∗ wait1 (F := F) c (rsRs 4) NS
        ∗ (iprop(owesL c (agL c downward) ∗ got m c 5 ∗ got m c 4) -∗ Φ (tot4 m c)))
      ⊢ runs c (P13 (F := F) c v330 v342 v354 (k0_pay19 (ownRows m c) (rsRead m c 6))) Φ := by
  unfold P13; rw [k0_part13_eq_skeleton]; unfold k0_part13_skel
  simp only [semSignalWord, semWaitWord, Prog.lift, Prog.bind_op, Prog.bind_ret, Prog.pure_eq_ret, wp_deviceId]
  unfold got tot4
  iintro ⟨#Hk, HO, W5, W4, Hc⟩
  iapply (do_rsR m K c 5 rfl (credit_rs 5)) $$ [HO W5]
  · isplitr; · iexact Hk
    isplitl [HO] <;> iassumption
  iintro ⟨HO, Z5, B5⟩
  iapply (load_rs m c 5 rfl) $$ B5; iintro B5
  iapply (do_rsR m K c 4 rfl (credit_rs 4)) $$ [HO W4]
  · isplitr; · iexact Hk
    isplitl [HO] <;> iassumption
  iintro ⟨HO, Z4, B4⟩
  iapply (load_rs m c 4 rfl) $$ B4; iintro B4
  iapply (runs_ret c)
  iapply Hc
  isplitl [HO]; · iexact HO
  isplitl [Z5 B5]; · isplitl [Z5] <;> iassumption
  isplitl [Z4] <;> iassumption

theorem part14 (c : Dev nD) (v366 v378 v390) (Φ) :
    iprop(know m K ∗ owesL c (agL c downward) ∗ wait1 (F := F) c (rsRs 3) NS ∗ wait1 (F := F) c (rsRs 2) NS ∗ wait1 (F := F) c (rsRs 1) NS
        ∗ (∀ v w, iprop(owesL c (agL c downward) ∗ got m c 3 ∗ got m c 2 ∗ got m c 1) -∗ Φ ⟨tot7 m c, v, w⟩))
      ⊢ runs c (P14 (F := F) c v366 v378 v390 (tot4 m c)) Φ := by
  unfold P14; rw [k0_part14_eq_skeleton]; unfold k0_part14_skel
  simp only [semSignalWord, semWaitWord, Prog.lift, Prog.bind_op, Prog.bind_ret, Prog.pure_eq_ret, wp_deviceId]
  unfold got tot7
  iintro ⟨#Hk, HO, W3, W2, W1, Hc⟩
  iapply (do_rsR m K c 3 rfl (credit_rs 3)) $$ [HO W3]
  · isplitr; · iexact Hk
    isplitl [HO] <;> iassumption
  iintro ⟨HO, Z3, B3⟩
  iapply (load_rs m c 3 rfl) $$ B3; iintro B3
  iapply (do_rsR m K c 2 rfl (credit_rs 2)) $$ [HO W2]
  · isplitr; · iexact Hk
    isplitl [HO] <;> iassumption
  iintro ⟨HO, Z2, B2⟩
  iapply (load_rs m c 2 rfl) $$ B2; iintro B2
  iapply (do_rsR m K c 1 rfl (credit_rs 1)) $$ [HO W1]
  · isplitr; · iexact Hk
    isplitl [HO] <;> iassumption
  iintro ⟨HO, Z1, B1⟩
  iapply (load_rs m c 1 rfl) $$ B1; iintro B1
  iapply (runs_ret c)
  iapply Hc
  isplitl [HO]; · iexact HO
  isplitl [Z3 B3]; · isplitl [Z3] <;> iassumption
  isplitl [Z2 B2]; · isplitl [Z2] <;> iassumption
  isplitl [Z1] <;> iassumption

theorem part15 (c : Dev nD) (v2 v470 c0) (Φ) :
    iprop(know m K ∗ owesL c (agL c downward) ∗ wait1 (F := F) c (rsRs 0) NS ∗ res m c [] ∗ ptsAny (F := F) c agsM ∗ agIn (F := F) c 6
        ∗ (∀ v, iprop(owesL c (agL c [5, 4, 3, 2, 1, 0]) ∗ got m c 0 ∗ res m c [c] ∗ creditA (F := F) (dmaCell c (agSs 6)) NS
              ∗ pts c agsM (shareDrop fullShare 7) (totR m c)
              ∗ pts c agsM (shareTok fullShare 7 5) (totR m c) ∗ pts c agsM (shareTok fullShare 7 4) (totR m c) ∗ pts c agsM (shareTok fullShare 7 3) (totR m c) ∗ pts c agsM (shareTok fullShare 7 2) (totR m c) ∗ pts c agsM (shareTok fullShare 7 1) (totR m c) ∗ pts c agsM (shareTok fullShare 7 0) (totR m c)) -∗ Φ v))
      ⊢ runs c (P15 (F := F) c v2 (tot7 m c) v470 c0) Φ := by
  unfold P15; rw [k0_part15_eq_skeleton]; unfold k0_part15_skel
  simp only [semSignalWord, semWaitWord, Prog.lift, Prog.bind_op, Prog.bind_ret, Prog.pure_eq_ret, wp_deviceId]
  unfold got res
  iintro ⟨#Hk, HO, W0, HR, ⟨%fs, HS⟩, H6, Hc⟩
  iapply (do_rsR m K c 0 rfl (credit_rs 0)) $$ [HO W0]
  · isplitr; · iexact Hk
    isplitl [HO] <;> iassumption
  iintro ⟨HO, Z0, B0⟩
  iapply (load_rs m c 0 rfl) $$ B0; iintro B0
  iapply (load_out m c []) $$ HR; iintro %vr HR
  iapply (store_out m c c [] (k0_off4_eq c) (rowsOf_self m c).symm) $$ HR; iintro HR
  iapply (load_drop (F := F) c) $$ HS; iintro %va HS
  iapply (store_whole (F := F) c cc0_scratch4 (g := totR m c) (Memref.write_access_unit_zero_univ (Elt F) cc0_scratch4 hz2 _ fs (totR m c))) $$ HS; iintro HS
  ihave HT := (ags_split (F := F) c (totR m c)) $$ HS
  icases HT with ⟨HD, T6, T5, T4, T3, T2, T1, T0⟩
  ihave H6 := (ag1_intro m c 6) $$ [H6 T6]
  · isplitl [H6] <;> iassumption
  ihave HO := (Entails.of_eq (show owesL (F := F) c (agL c downward) = owesL c ((dmaCell (dn c 6) (agRs 6), NS) :: agL c [5, 4, 3, 2, 1, 0]) from rfl)) $$ HO
  iapply (do_ag m K c _ 6 (to_ag1 c) _ rfl rfl rfl) $$ [HO H6]
  · isplitr; · iexact Hk
    isplitl [HO] <;> iassumption
  iintro ⟨HO, C6⟩
  iapply (runs_ret c)
  iapply Hc
  isplitl [HO]; · iexact HO
  isplitl [Z0 B0]; · isplitl [Z0] <;> iassumption
  isplitl [HR]; · iexact HR
  isplitl [C6]; · iexact C6
  isplitl [HD]; · iexact HD
  isplitl [T5]; · iexact T5
  isplitl [T4]; · iexact T4
  isplitl [T3]; · iexact T3
  isplitl [T2]; · iexact T2
  isplitl [T1] <;> iassumption

theorem part16 (c : Dev nD) (v2 v501) (Φ) :
    iprop(know m K ∗ owesL c (agL c [5, 4, 3, 2, 1, 0]) ∗ (ag1 m c 5 ∗ ag1 m c 4 ∗ ag1 m c 3)
        ∗ (∀ v, iprop(owesL c (agL c [2, 1, 0]) ∗ creditA (F := F) (dmaCell c (agSs 5)) NS ∗ creditA (F := F) (dmaCell c (agSs 4)) NS ∗ creditA (F := F) (dmaCell c (agSs 3)) NS) -∗ Φ v))
      ⊢ runs c (P16 (F := F) c v2 v501) Φ := by
  unfold P16; rw [k0_part16_eq_skeleton]; unfold k0_part16_skel
  simp only [semSignalWord, semWaitWord, Prog.lift, Prog.bind_op, Prog.bind_ret, Prog.pure_eq_ret, wp_deviceId]
  simp only [rsL, agL, List.map_cons, List.map_nil, List.cons_append, List.nil_append]
  iintro ⟨#Hk, HO, ⟨H5, H4, H3⟩, Hc⟩
  iapply (do_ag m K c _ 5 (to_ag2 c) _ rfl rfl rfl) $$ [HO H5]
  · isplitr; · iexact Hk
    isplitl [HO] <;> iassumption
  iintro ⟨HO, C5⟩
  iapply (do_ag m K c _ 4 (to_ag3 c) _ rfl rfl rfl) $$ [HO H4]
  · isplitr; · iexact Hk
    isplitl [HO] <;> iassumption
  iintro ⟨HO, C4⟩
  iapply (do_ag m K c _ 3 (to_ag4 c) _ rfl rfl rfl) $$ [HO H3]
  · isplitr; · iexact Hk
    isplitl [HO] <;> iassumption
  iintro ⟨HO, C3⟩
  iapply (runs_ret c)
  iapply Hc
  isplitl [HO]; · iexact HO
  isplitl [C5]; · iexact C5
  isplitl [C4] <;> iassumption

theorem part17 (c : Dev nD) (v2 v491 v531) (Φ) :
    iprop(know m K ∗ owesL c (agL c [2, 1, 0]) ∗ (ag1 m c 2 ∗ ag1 m c 1 ∗ ag1 m c 0)
        ∗ (∀ v, iprop(owesL (F := F) c [] ∗ creditA (F := F) (dmaCell c (agSs 2)) NS ∗ creditA (F := F) (dmaCell c (agSs 1)) NS ∗ creditA (F := F) (dmaCell c (agSs 0)) NS) -∗ Φ v))
      ⊢ runs c (P17 (F := F) c v2 v491 v531) Φ := by
  unfold P17; rw [k0_part17_eq_skeleton]; unfold k0_part17_skel
  simp only [semSignalWord, semWaitWord, Prog.lift, Prog.bind_op, Prog.bind_ret, Prog.pure_eq_ret, wp_deviceId]
  simp only [rsL, agL, List.map_cons, List.map_nil, List.cons_append, List.nil_append]
  iintro ⟨#Hk, HO, ⟨H2, H1, H0⟩, Hc⟩
  iapply (do_ag m K c _ 2 (to_ag5 c) _ rfl rfl rfl) $$ [HO H2]
  · isplitr; · iexact Hk
    isplitl [HO] <;> iassumption
  iintro ⟨HO, C2⟩
  iapply (do_ag m K c _ 1 (to_ag6 c) _ rfl rfl rfl) $$ [HO H1]
  · isplitr; · iexact Hk
    isplitl [HO] <;> iassumption
  iintro ⟨HO, C1⟩
  iapply (do_ag m K c _ 0 (to_ag7 c) _ rfl rfl rfl) $$ [HO H0]
  · isplitr; · iexact Hk
    isplitl [HO] <;> iassumption
  iintro ⟨HO, C0⟩
  iapply (runs_ret c)
  iapply Hc
  isplitl [HO]; · iexact HO
  isplitl [C2]; · iexact C2
  isplitl [C1] <;> iassumption

end Cert.KernelIdealProof

end
-- ==== Proof.Body3.lean ====
/-
The last parts of the body: the arrivals of the second exchange into the result, and the waits for the departures.
-/
module

public import proofs.«01_k».proof.Proof.Body2

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

/-- The row blocks of the result that are right once the arrivals of the slots down to `s` are stored. -/
abbrev rows0 (c : Dev nD) : List (Dev nD) := [c]
abbrev rows1 (c : Dev nD) : List (Dev nD) := up c 6 :: rows0 c
abbrev rows2 (c : Dev nD) : List (Dev nD) := up c 5 :: rows1 c
abbrev rows3 (c : Dev nD) : List (Dev nD) := up c 4 :: rows2 c
abbrev rows4 (c : Dev nD) : List (Dev nD) := up c 3 :: rows3 c
abbrev rows5 (c : Dev nD) : List (Dev nD) := up c 2 :: rows4 c
abbrev rows6 (c : Dev nD) : List (Dev nD) := up c 1 :: rows5 c
abbrev rows7 (c : Dev nD) : List (Dev nD) := up c 0 :: rows6 c

theorem rows7_all (c : Dev nD) : ∀ d, d ∈ rows7 c := by revert c; decide

theorem credit_rows {off : Fin 2 → ℕ} {inb : ∀ a, off a + S128x1024.size a ≤ S1024x1024.size a} :
    (abfM.slice (Rect.unit (s := S1024x1024) off S128x1024.size inb) (fun _ => rfl)).view.dmaCredit = NS := rfl

theorem part18 (c : Dev nD) (v2 v501) (Φ) :
    iprop(know m K ∗ owesL (F := F) c [] ∗ wait1 (F := F) c (agRs 6) NS ∗ wait1 (F := F) c (agRs 5) NS ∗ res m c (rows0 c)
        ∗ (∀ v, iprop(owesL (F := F) c [] ∗ res m c (rows1 c) ∗ gotA m c 6 ∗ gotA m c 5) -∗ Φ ⟨k0_pay26 (agRead m c 5), v⟩))
      ⊢ runs c (P18 (F := F) c v2 v501) Φ := by
  unfold P18; rw [k0_part18_eq_skeleton]; unfold k0_part18_skel
  simp only [semSignalWord, semWaitWord, Prog.lift, Prog.bind_op, Prog.bind_ret, Prog.pure_eq_ret, wp_deviceId]
  unfold gotA res
  iintro ⟨#Hk, HO, W6, W5, HR, Hc⟩
  iapply (do_agR m K c 6 rfl (credit_ag 6)) $$ [HO W6]
  · isplitr; · iexact Hk
    isplitl [HO] <;> iassumption
  iintro ⟨HO, Z6, B6⟩
  iapply (load_ag m c 6 rfl) $$ B6; iintro B6
  iapply (load_out m c (rows0 c)) $$ HR; iintro %v6 HR
  iapply (store_out m c (up c 6) (rows0 c) (rows_ag1 c) (rowsOf_up m c 6).symm) $$ HR; iintro HR
  iapply (do_agR m K c 5 rfl (credit_ag 5)) $$ [HO W5]
  · isplitr; · iexact Hk
    isplitl [HO] <;> iassumption
  iintro ⟨HO, Z5, B5⟩
  iapply (load_ag m c 5 rfl) $$ B5; iintro B5
  iapply (load_out m c (rows1 c)) $$ HR; iintro %v5 HR
  iapply (runs_ret c)
  iapply Hc
  isplitl [HO]; · iexact HO
  isplitl [HR]; · iexact HR
  isplitl [Z6 B6]; · isplitl [Z6] <;> iassumption
  isplitl [Z5] <;> iassumption

theorem part19 (c : Dev nD) (v2 v511 v521 v591) (Φ) :
    iprop(know m K ∗ owesL (F := F) c [] ∗ wait1 (F := F) c (agRs 4) NS ∗ wait1 (F := F) c (agRs 3) NS ∗ res m c (rows1 c)
        ∗ (∀ v, iprop(owesL (F := F) c [] ∗ res m c (rows3 c) ∗ gotA m c 4 ∗ gotA m c 3) -∗ Φ v))
      ⊢ runs c (P19 (F := F) c v2 v511 v521 (k0_pay26 (agRead m c 5)) v591) Φ := by
  unfold P19; rw [k0_part19_eq_skeleton]; unfold k0_part19_skel
  simp only [semSignalWord, semWaitWord, Prog.lift, Prog.bind_op, Prog.bind_ret, Prog.pure_eq_ret, wp_deviceId]
  unfold gotA res
  iintro ⟨#Hk, HO, W4, W3, HR, Hc⟩
  iapply (store_out m c (up c 5) (rows1 c) (rows_ag2 c) (rowsOf_up m c 5).symm) $$ HR; iintro HR
  iapply (do_agR m K c 4 rfl (credit_ag 4)) $$ [HO W4]
  · isplitr; · iexact Hk
    isplitl [HO] <;> iassumption
  iintro ⟨HO, Z4, B4⟩
  iapply (load_ag m c 4 rfl) $$ B4; iintro B4
  iapply (load_out m c (rows2 c)) $$ HR; iintro %v4 HR
  iapply (store_out m c (up c 4) (rows2 c) (rows_ag3 c) (rowsOf_up m c 4).symm) $$ HR; iintro HR
  iapply (do_agR m K c 3 rfl (credit_ag 3)) $$ [HO W3]
  · isplitr; · iexact Hk
    isplitl [HO] <;> iassumption
  iintro ⟨HO, Z3, B3⟩
  iapply (runs_ret c)
  iapply Hc
  isplitl [HO]; · iexact HO
  isplitl [HR]; · iexact HR
  isplitl [Z4 B4]; · isplitl [Z4] <;> iassumption
  isplitl [Z3] <;> iassumption

theorem part20 (c : Dev nD) (v2 v531 v541 v619) (Φ) :
    iprop(know m K ∗ owesL (F := F) c [] ∗ gotA m c 3 ∗ wait1 (F := F) c (agRs 2) NS ∗ res m c (rows3 c)
        ∗ (iprop(owesL (F := F) c [] ∗ res m c (rows5 c) ∗ gotA m c 3 ∗ gotA m c 2) -∗ Φ ⟨⟩))
      ⊢ runs c (P20 (F := F) c v2 v531 v541 v619) Φ := by
  unfold P20; rw [k0_part20_eq_skeleton]; unfold k0_part20_skel
  simp only [semSignalWord, semWaitWord, Prog.lift, Prog.bind_op, Prog.bind_ret, Prog.pure_eq_ret, wp_deviceId]
  unfold gotA res
  iintro ⟨#Hk, HO, ⟨Z3, B3⟩, W2, HR, Hc⟩
  iapply (load_ag m c 3 rfl) $$ B3; iintro B3
  iapply (load_out m c (rows3 c)) $$ HR; iintro %v3 HR
  iapply (store_out m c (up c 3) (rows3 c) (rows_ag4 c) (rowsOf_up m c 3).symm) $$ HR; iintro HR
  iapply (do_agR m K c 2 rfl (credit_ag 2)) $$ [HO W2]
  · isplitr; · iexact Hk
    isplitl [HO] <;> iassumption
  iintro ⟨HO, Z2, B2⟩
  iapply (load_ag m c 2 rfl) $$ B2; iintro B2
  iapply (load_out m c (rows4 c)) $$ HR; iintro %v2 HR
  iapply (store_out m c (up c 2) (rows4 c) (rows_ag5 c) (rowsOf_up m c 2).symm) $$ HR; iintro HR
  iapply (runs_ret c)
  iapply Hc
  isplitl [HO]; · iexact HO
  isplitl [HR]; · iexact HR
  isplitl [Z3 B3]; · isplitl [Z3] <;> iassumption
  isplitl [Z2] <;> iassumption

theorem part21 (c : Dev nD) (v2 v551) (Φ) :
    iprop(know m K ∗ owesL (F := F) c [] ∗ wait1 (F := F) c (agRs 1) NS ∗ wait1 (F := F) c (agRs 0) NS ∗ res m c (rows5 c)
        ∗ (iprop(owesL (F := F) c [] ∗ res m c (rows7 c) ∗ gotA m c 1 ∗ gotA m c 0) -∗ Φ ⟨⟩))
      ⊢ runs c (P21 (F := F) c v2 v551) Φ := by
  unfold P21; rw [k0_part21_eq_skeleton]; unfold k0_part21_skel
  simp only [semSignalWord, semWaitWord, Prog.lift, Prog.bind_op, Prog.bind_ret, Prog.pure_eq_ret, wp_deviceId]
  unfold gotA res
  iintro ⟨#Hk, HO, W1, W0, HR, Hc⟩
  iapply (do_agR m K c 1 rfl (credit_ag 1)) $$ [HO W1]
  · isplitr; · iexact Hk
    isplitl [HO] <;> iassumption
  iintro ⟨HO, Z1, B1⟩
  iapply (load_ag m c 1 rfl) $$ B1; iintro B1
  iapply (load_out m c (rows5 c)) $$ HR; iintro %v1 HR
  iapply (store_out m c (up c 1) (rows5 c) (rows_ag6 c) (rowsOf_up m c 1).symm) $$ HR; iintro HR
  iapply (do_agR m K c 0 rfl (credit_ag 0)) $$ [HO W0]
  · isplitr; · iexact Hk
    isplitl [HO] <;> iassumption
  iintro ⟨HO, Z0, B0⟩
  iapply (load_ag m c 0 rfl) $$ B0; iintro B0
  iapply (load_out m c (rows6 c)) $$ HR; iintro %v0 HR
  iapply (store_out m c (up c 0) (rows6 c) (rows_ag7 c) (rowsOf_up m c 0).symm) $$ HR; iintro HR
  iapply (runs_ret c)
  iapply Hc
  isplitl [HO]; · iexact HO
  isplitl [HR]; · iexact HR
  isplitl [Z1 B1]; · isplitl [Z1] <;> iassumption
  isplitl [Z0] <;> iassumption

theorem part22 (c : Dev nD) (Φ) :
    iprop(know m K ∗ owesL (F := F) c [] ∗ (wait1 (F := F) c (rsSs 6) NS ∗ wait1 (F := F) c (rsSs 5) NS ∗ wait1 (F := F) c (rsSs 4) NS ∗ wait1 (F := F) c (rsSs 3) NS)
        ∗ (iprop(owesL (F := F) c [] ∗ back m c 6 ∗ back m c 5 ∗ back m c 4 ∗ back m c 3) -∗ Φ ⟨⟩))
      ⊢ runs c (P22 (F := F) c) Φ := by
  unfold P22; rw [k0_part22_eq_skeleton]; unfold k0_part22_skel
  simp only [semSignalWord, semWaitWord, Prog.lift, Prog.bind_op, Prog.bind_ret, Prog.pure_eq_ret, wp_deviceId]
  unfold back
  iintro ⟨#Hk, HO, ⟨S6, S5, S4, S3⟩, Hc⟩
  iapply (do_rsS m K c 6 rfl (credit_rows (inb := k0_off2_inb c 0))) $$ [HO S6]
  · isplitr; · iexact Hk
    isplitl [HO] <;> iassumption
  iintro ⟨HO, Z6, B6⟩
  iapply (do_rsS m K c 5 rfl (credit_rows (inb := k0_off2_inb c 1))) $$ [HO S5]
  · isplitr; · iexact Hk
    isplitl [HO] <;> iassumption
  iintro ⟨HO, Z5, B5⟩
  iapply (do_rsS m K c 4 rfl (credit_rows (inb := k0_off2_inb c 2))) $$ [HO S4]
  · isplitr; · iexact Hk
    isplitl [HO] <;> iassumption
  iintro ⟨HO, Z4, B4⟩
  iapply (do_rsS m K c 3 rfl (credit_rows (inb := k0_off2_inb c 3))) $$ [HO S3]
  · isplitr; · iexact Hk
    isplitl [HO] <;> iassumption
  iintro ⟨HO, Z3, B3⟩
  iapply (runs_ret c)
  iapply Hc
  isplitl [HO]; · iexact HO
  isplitl [Z6 B6]; · isplitl [Z6] <;> iassumption
  isplitl [Z5 B5]; · isplitl [Z5] <;> iassumption
  isplitl [Z4 B4]; · isplitl [Z4] <;> iassumption
  isplitl [Z3] <;> iassumption

theorem part23 (c : Dev nD) (Φ) :
    iprop(know m K ∗ owesL (F := F) c [] ∗ (wait1 (F := F) c (rsSs 2) NS ∗ wait1 (F := F) c (rsSs 1) NS ∗ wait1 (F := F) c (rsSs 0) NS) ∗ (wait1 (F := F) c (agSs 6) NS ∗ wait1 (F := F) c (agSs 5) NS)
        ∗ (iprop(owesL (F := F) c [] ∗ back m c 2 ∗ back m c 1 ∗ back m c 0 ∗ backA m c 6 ∗ backA m c 5) -∗ Φ ⟨⟩))
      ⊢ runs c (P23 (F := F) c) Φ := by
  unfold P23; rw [k0_part23_eq_skeleton]; unfold k0_part23_skel
  simp only [semSignalWord, semWaitWord, Prog.lift, Prog.bind_op, Prog.bind_ret, Prog.pure_eq_ret, wp_deviceId]
  unfold back backA
  iintro ⟨#Hk, HO, ⟨S2, S1, S0⟩, ⟨A6, A5⟩, Hc⟩
  iapply (do_rsS m K c 2 rfl (credit_rows (inb := k0_off2_inb c 4))) $$ [HO S2]
  · isplitr; · iexact Hk
    isplitl [HO] <;> iassumption
  iintro ⟨HO, Z2, B2⟩
  iapply (do_rsS m K c 1 rfl (credit_rows (inb := k0_off2_inb c 5))) $$ [HO S1]
  · isplitr; · iexact Hk
    isplitl [HO] <;> iassumption
  iintro ⟨HO, Z1, B1⟩
  iapply (do_rsS m K c 0 rfl (credit_rows (inb := k0_off2_inb c 6))) $$ [HO S0]
  · isplitr; · iexact Hk
    isplitl [HO] <;> iassumption
  iintro ⟨HO, Z0, B0⟩
  iapply (do_agS m K c 6 rfl credit_ags) $$ [HO A6]
  · isplitr; · iexact Hk
    isplitl [HO] <;> iassumption
  iintro ⟨HO, Y6, T6⟩
  iapply (do_agS m K c 5 rfl credit_ags) $$ [HO A5]
  · isplitr; · iexact Hk
    isplitl [HO] <;> iassumption
  iintro ⟨HO, Y5, T5⟩
  iapply (runs_ret c)
  iapply Hc
  isplitl [HO]; · iexact HO
  isplitl [Z2 B2]; · isplitl [Z2] <;> iassumption
  isplitl [Z1 B1]; · isplitl [Z1] <;> iassumption
  isplitl [Z0 B0]; · isplitl [Z0] <;> iassumption
  isplitl [Y6 T6]; · isplitl [Y6] <;> iassumption
  isplitl [Y5] <;> iassumption

end Cert.KernelIdealProof

end
-- ==== Proof.Exchange.lean ====
/-
What a device starts its body with and ends it with, and how the two exchanges' buffers are cut into the pieces that the
steps take and put together again.
-/
module

public import proofs.«01_k».proof.Proof.Body3

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

/-! ## The tokens, positions and credits that device `c` starts with -/

def sigT (c : Dev nD) : sProp 𝕄 := bigSep Finset.univ fun s : Fin 7 => dutyA (barCell (up c s)) s
def rsT (c : Dev nD) : sProp 𝕄 := bigSep Finset.univ fun s : Fin 7 => iprop(dutyA (dmaCell c (rsSs s)) 0 ∗ dutyA (dmaCell (dn c s) (rsRs s)) 0)
def agT (c : Dev nD) : sProp 𝕄 := bigSep Finset.univ fun s : Fin 7 => iprop(dutyA (dmaCell c (agSs s)) 0 ∗ dutyA (dmaCell (dn c s) (agRs s)) 0)
/-- Its positions at its own departures' cells. -/
def rsA (c : Dev nD) : sProp 𝕄 := bigSep Finset.univ fun s : Fin 7 => atA (F := F) (dmaCell c (rsSs s))
def agA (c : Dev nD) : sProp 𝕄 := bigSep Finset.univ fun s : Fin 7 => atA (F := F) (dmaCell c (agSs s))
/-- What it needs to wait for each arrival. -/
def rsW (c : Dev nD) : sProp 𝕄 := bigSep Finset.univ fun s : Fin 7 => wait1 (F := F) c (rsRs s) NS
def agW (c : Dev nD) : sProp 𝕄 := bigSep Finset.univ fun s : Fin 7 => wait1 (F := F) c (agRs s) NS

def begins (c : Dev nD) : sProp 𝕄 :=
  iprop(sigT (F := F) c ∗ rsT (F := F) c ∗ agT (F := F) c ∗ (dutyA (dmaCell c kS) 0 ∗ dutyA (dmaCell c vS) 0)
    ∗ (atA (barCell c) ∗ atA (dmaCell c kS) ∗ atA (dmaCell c vS)) ∗ (rsA (F := F) c ∗ agA (F := F) c)
    ∗ creditA (barCell c) 7 ∗ (rsW (F := F) c ∗ agW (F := F) c))

/-! ## Buffers in pieces -/

def slotSet (s : Fin 7) : Finset S7x128x1024.Idx := (slotR s).set
def rowSet (d : Dev nD) : Finset S1024x1024.Idx := (rowsR d).set
theorem slotSet_disjoint (s s' : Fin 7) (h : s ≠ s') : Disjoint (slotSet s) (slotSet s') := slots_disjoint s s' h
theorem slotSet_cover : Finset.univ.biUnion slotSet = Finset.univ := slots_cover
theorem rowSet_disjoint (s s' : Dev nD) (h : s ≠ s') : Disjoint (rowSet s) (rowSet s') := rows_disjoint s s' h
theorem rowSet_cover : Finset.univ.biUnion rowSet = Finset.univ := rows_cover

theorem rs_slots (c : Dev nD) (f) : pts (F := F) c rsM fullShare f = bigSep Finset.univ fun s : Fin 7 => pts (F := F) c (rsSlot s) fullShare f := by
  have h := Idealize.ShloMosaic.Ring.pointsTo_blocks (Ix := Unit) (Name := ℕ) (U := UU) (Lvl := ℕ) (q := fullShare)
    (ℓ := (c : Thread nD τ).loc cc0_scratch5) slotSet slotSet_disjoint slotSet_cover f
  unfold pts
  rw [View.set_whole]
  refine h.trans (bigSep_congr fun s _ => ?_)
  rw [rsSlot_set]; rfl
theorem ag_slots (c : Dev nD) (f) : pts (F := F) c agM fullShare f = bigSep Finset.univ fun s : Fin 7 => pts (F := F) c (agSlot s) fullShare f := by
  have h := Idealize.ShloMosaic.Ring.pointsTo_blocks (Ix := Unit) (Name := ℕ) (U := UU) (Lvl := ℕ) (q := fullShare)
    (ℓ := (c : Thread nD τ).loc cc0_scratch6) slotSet slotSet_disjoint slotSet_cover f
  unfold pts
  rw [View.set_whole]
  refine h.trans (bigSep_congr fun s _ => ?_)
  rw [agSlot_set]; rfl

theorem dn_ne (c : Dev nD) (s : Fin 7) : dn c s ≠ c := by revert c s; decide
theorem dn_injective (c : Dev nD) : Function.Injective (dn c) := by revert c; decide
theorem others (c : Dev nD) : (Finset.univ : Finset (Dev nD)).erase c = Finset.univ.map ⟨dn c, dn_injective c⟩ := by
  ext d
  constructor
  · intro h
    obtain ⟨s, hs⟩ := (dn_cover c d).resolve_left (Finset.ne_of_mem_erase h)
    exact Finset.mem_map.mpr ⟨s, Finset.mem_univ _, hs.symm⟩
  · intro h
    obtain ⟨s, -, hs⟩ := Finset.mem_map.mp h
    exact Finset.mem_erase.mpr ⟨fun e => dn_ne c s (hs.trans e), Finset.mem_univ _⟩

/-- The rounded partial sum: the device's own row block, and those it sends. -/
theorem abf_chunks (c : Dev nD) (f) : pts (F := F) c abfM fullShare f
    = iprop(pts c (chunk c) fullShare f ∗ bigSep Finset.univ fun s : Fin 7 => pts (F := F) c (chunk (dn c s)) fullShare f) := by
  have h := Idealize.ShloMosaic.Ring.pointsTo_blocks (Ix := Unit) (Name := ℕ) (U := UU) (Lvl := ℕ) (q := fullShare)
    (ℓ := (c : Thread nD τ).loc cc0_scratch3) rowSet rowSet_disjoint rowSet_cover f
  have h' : pts (F := F) c abfM fullShare f = bigSep Finset.univ fun d : Dev nD => pts (F := F) c (chunk d) fullShare f := by
    unfold pts
    rw [View.set_whole]
    refine h.trans (bigSep_congr fun d _ => ?_)
    rw [chunk_set]; rfl
  have e : (bigSep Finset.univ fun d : Dev nD => pts (F := F) c (chunk d) fullShare f)
      = iprop(pts c (chunk c) fullShare f ∗ bigSep (Finset.univ.erase c) fun d : Dev nD => pts (F := F) c (chunk d) fullShare f) := bigSep_univ_at _ c
  have e' : (bigSep (Finset.univ.erase c) fun d : Dev nD => pts (F := F) c (chunk d) fullShare f)
      = bigSep Finset.univ fun s : Fin 7 => pts (F := F) c (chunk (dn c s)) fullShare f := by
    rw [others c, bigSep_map]; rfl
  rw [h', e, e']

/-! ## Before the signals, and before the first exchange -/

theorem any_rsSlot (c : Dev nD) (f : Buf (Elt F) (rsM.view.loc (c : Thread nD τ))) : (bigSep Finset.univ fun s : Fin 7 => pts (F := F) c (rsSlot s) fullShare f)
    ⊢ bigSep Finset.univ fun s : Fin 7 => ptsAny (F := F) c (rsSlot s) :=
  bigSep_mono fun s _ => by
    have h : pts (F := F) c (rsSlot s) fullShare f ⊢ ptsAny (F := F) c (rsSlot s) := by
      iintro H; iexists f; iexact H
    exact h
theorem any_agSlot (c : Dev nD) (f : Buf (Elt F) (agM.view.loc (c : Thread nD τ))) : (bigSep Finset.univ fun s : Fin 7 => pts (F := F) c (agSlot s) fullShare f)
    ⊢ bigSep Finset.univ fun s : Fin 7 => ptsAny (F := F) c (agSlot s) :=
  bigSep_mono fun s _ => by
    have h : pts (F := F) c (agSlot s) fullShare f ⊢ ptsAny (F := F) c (agSlot s) := by
      iintro H; iexists f; iexact H
    exact h

theorem sigs (c : Dev nD) : iprop(sigT (F := F) c ∗ ptsAny (F := F) c rsM ∗ ptsAny (F := F) c agM)
    ⊢ iprop((sig1 (F := F) c 0 ∗ sig1 (F := F) c 1 ∗ sig1 (F := F) c 2 ∗ sig1 (F := F) c 3 ∗ sig1 (F := F) c 4) ∗ (sig1 (F := F) c 5 ∗ sig1 (F := F) c 6)) := by
  have h : iprop(sigT (F := F) c ∗ ptsAny (F := F) c rsM ∗ ptsAny (F := F) c agM) ⊢ bigSep Finset.univ fun s : Fin 7 => sig1 (F := F) c s := by
    iintro ⟨H, ⟨%f, Hr⟩, ⟨%g, Ha⟩⟩
    ihave Hr := (Entails.of_eq (rs_slots c f)) $$ Hr
    ihave Ha := (Entails.of_eq (ag_slots c g)) $$ Ha
    unfold sigT sig1
    rw [bigSep_sep', bigSep_sep']
    isplitl [H]; · iexact H
    isplitl [Hr]
    · iapply (any_rsSlot (F := F) c f); iexact Hr
    · iapply (any_agSlot (F := F) c g); iexact Ha
  rw [seven] at h
  refine h.trans ?_
  iintro ⟨H6, H5, H4, H3, H2, H1, H0⟩
  isplitl [H0 H1 H2 H3 H4]
  · isplitl [H0]; · iexact H0
    isplitl [H1]; · iexact H1
    isplitl [H2]; · iexact H2
    isplitl [H3] <;> iassumption
  isplitl [H5] <;> iassumption

theorem exchange (c : Dev nD) :
    iprop(bigSep Finset.univ (barPay (F := F) c) ∗ rsT (F := F) c ∗ agT (F := F) c ∗ pts c abfM fullShare (accR m c))
      ⊢ iprop(pts c (chunk c) fullShare (accR m c) ∗ (rs1 m c 6 ∗ rs1 m c 5 ∗ rs1 m c 4 ∗ rs1 m c 3 ∗ rs1 m c 2 ∗ rs1 m c 1 ∗ rs1 m c 0) ∗ (agIn (F := F) c 6 ∗ agIn (F := F) c 5 ∗ agIn (F := F) c 4 ∗ agIn (F := F) c 3 ∗ agIn (F := F) c 2 ∗ agIn (F := F) c 1 ∗ agIn (F := F) c 0)) := by
  have h : iprop(bigSep Finset.univ (barPay (F := F) c) ∗ rsT (F := F) c ∗ agT (F := F) c ∗ pts c abfM fullShare (accR m c))
      ⊢ iprop(pts c (chunk c) fullShare (accR m c) ∗ (bigSep Finset.univ fun s : Fin 7 => rs1 m c s) ∗ bigSep Finset.univ fun s : Fin 7 => agIn (F := F) c s) := by
    unfold rsT agT barPay rs1 agIn
    rw [abf_chunks]
    simp only [bigSep_sep']
    iintro ⟨⟨HP, HQ⟩, ⟨H1, H2⟩, ⟨H3, H4⟩, HC, HD⟩
    isplitl [HC]; · iexact HC
    isplitl [H1 H2 HP HD]
    · isplitl [H1]; · iexact H1
      isplitl [H2]; · iexact H2
      isplitl [HP] <;> iassumption
    isplitl [H3]; · iexact H3
    isplitl [H4] <;> iassumption
  rwa [seven (fun s => rs1 m c s), seven (fun s => agIn (F := F) c s)] at h

/-! ## What device `c` ends its body with -/

def ends (c : Dev nD) : sProp 𝕄 :=
  iprop((semVal (barCell c) 0 ∗ semVal (dmaCell c kS) 0 ∗ semVal (dmaCell c vS) 0)
    ∗ (pts c (kSrc c) fullShare (m ((c : Thread nD τ).loc main_arg2)) ∗ pts c (vSrc c) fullShare (m ((c : Thread nD τ).loc main_arg3)))
    ∗ (pts c xM fullShare (xstg m c) ∗ pts c wqM fullShare (wqstg m c) ∗ heads m c ∗ pts c accM fullShare (acc m c))
    ∗ (pts c (chunk c) fullShare (accR m c) ∗ pts c agsM (shareDrop fullShare 7) (totR m c))
    ∗ (bigSep Finset.univ fun s : Fin 7 => got m c s) ∗ (bigSep Finset.univ fun s : Fin 7 => gotA m c s)
    ∗ (bigSep Finset.univ fun s : Fin 7 => back m c s) ∗ (bigSep Finset.univ fun s : Fin 7 => backA m c s)
    ∗ pts c outM fullShare (outAt m c))

end Cert.KernelIdealProof

end
-- ==== Proof.Body.lean ====
/-
The whole body of the kernel on one device, its parts in order.
-/
module

public import proofs.«01_k».proof.Proof.Exchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Fin 31 → ℕ)

abbrev Body := cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11

theorem runs_bind {α β : Type} (c : Dev nD) (P : Prog (TpuEff nD τ sig (Elt F) Λ₀ .tc) α) (k : α → Prog (TpuEff nD τ sig (Elt F) Λ₀ .tc) β)
    (Q : β → sProp 𝕄) : runs (F := F) c (P >>= k) Q = runs c P (fun a => runs c (k a) Q) := by
  unfold runs; rw [wp_bind]

theorem wait1_intro (c : Dev nD) (n : DmaSem sig) (N : ℕ) : iprop(creditA (F := F) (dmaCell c n) N ∗ atA (dmaCell c n)) ⊢ wait1 c n N := Entails.refl _

theorem backA_intro (c : Dev nD) (s : Fin 7) :
    iprop(semVal (dmaCell c (agSs s)) 0 ∗ pts c agsM (shareTok fullShare 7 s) (totR m c)) ⊢ backA m c s := Entails.refl _

set_option maxRecDepth 8000 in
set_option maxHeartbeats 4000000 in
/-- From what device `c` begins with, every buffer of its own, and the peers' knowledge, its body runs to its end without
    fault, pays everything it owes, and leaves the buffers as `ends` says. -/
theorem body (c : Dev nD) (Q : PUnit → sProp 𝕄) :
    iprop(know m K ∗ owesL c (barL c upward ++ (rsL c downward ++ agL c downward)) ∗ begins (F := F) c
        ∗ (pts c xM fullShare (xstg m c) ∗ pts c wqM fullShare (wqstg m c) ∗ pts c woM fullShare (wostg m c) ∗ res m c [])
        ∗ (pts c (kSrc c) fullShare (m ((c : Thread nD τ).loc main_arg2)) ∗ pts c (vSrc c) fullShare (m ((c : Thread nD τ).loc main_arg3)))
        ∗ (ptsAny (F := F) c kM ∗ ptsAny (F := F) c vM ∗ ptsAny (F := F) c accM ∗ ptsAny (F := F) c abfM ∗ ptsAny (F := F) c agsM
            ∗ ptsAny (F := F) c rsM ∗ ptsAny (F := F) c agM)
        ∗ (iprop(owesL c [] ∗ ends m c) -∗ Q ⟨⟩))
      ⊢ runs c (Body (F := F)) Q := by
  unfold Body
  rw [cc0_body_eq_skeleton]; unfold cc0_body_skel
  simp only [Prog.lift, Prog.bind_op, Prog.bind_ret, Prog.pure_eq_ret]
  rw [runs_bind, k0_part24_eq_skeleton]
  unfold k0_part24_skel begins
  simp only [Prog.lift, Prog.bind_op, Prog.bind_ret, Prog.pure_eq_ret]
  iintro ⟨#Hk, HO, ⟨HT, HrT, HaT, ⟨HtK, HtV⟩, ⟨HaB, HaK, HaV⟩, ⟨HrA, HaA⟩, HcB, HrW, HaW⟩, ⟨Hx, Hq, Hw, HR⟩, ⟨HsK, HsV⟩, ⟨HdK, HdV, Hac, Hab, Has, Hrs, Hag⟩, Hc⟩
  ihave HS := (sigs (F := F) c) $$ [HT Hrs Hag]
  · isplitl [HT]; · iexact HT
    isplitl [Hrs] <;> iassumption
  icases HS with ⟨HS1, HS2⟩
  ihave HrW := (Entails.of_eq (show rsW (F := F) c = _ from seven _)) $$ HrW
  icases HrW with ⟨W6, W5, W4, W3, W2, W1, W0⟩
  ihave HaW := (Entails.of_eq (show agW (F := F) c = _ from seven _)) $$ HaW
  icases HaW with ⟨V6, V5, V4, V3, V2, V1, V0⟩
  ihave HrA := (Entails.of_eq (show rsA (F := F) c = _ from seven _)) $$ HrA
  icases HrA with ⟨Y6, Y5, Y4, Y3, Y2, Y1, Y0⟩
  ihave HaA := (Entails.of_eq (show agA (F := F) c = _ from seven _)) $$ HaA
  icases HaA with ⟨X6, X5, X4, X3, X2, X1, X0⟩
  rw [runs_bind]
  iapply (part1 m K c (rsL c downward ++ agL c downward) _)
  isplitr; · iexact Hk
  isplitl [HO]; · iexact HO
  isplitl [HS1]; · iexact HS1
  iintro %v2 %v3 %v24 %c8 %h3 HO
  dsimp only
  rw [runs_bind]
  iapply (part2 m K c v2 v3 v24 c8 h3 _)
  isplitr; · iexact Hk
  isplitl [HO]; · iexact HO
  isplitl [HS2]; · iexact HS2
  isplitl [HcB HaB]
  · isplitl [HcB]; · iexact HcB
    iexact HaB
  isplitl [HtK HsK HdK]
  · isplitl [HtK]; · iexact HtK
    isplitl [HsK]; · iexact HsK
    iexact HdK
  isplitl [HtV HsV HdV]
  · isplitl [HtV]; · iexact HtV
    isplitl [HsV]; · iexact HsV
    iexact HdV
  isplitl [Hx]; · iexact Hx
  isplitl [Hq]; · iexact Hq
  iintro ⟨HO, ZB, HP, HcK, HcV, Hx, Hq⟩
  dsimp only
  ihave HwK := (wait1_intro (F := F) c kS NK) $$ [HcK HaK]
  · isplitl [HcK] <;> iassumption
  ihave HwV := (wait1_intro (F := F) c vS NK) $$ [HcV HaV]
  · isplitl [HcV] <;> iassumption
  rw [runs_bind]
  iapply (part3 m K c _)
  isplitr; · iexact Hk
  isplitl [HO]; · iexact HO
  isplitl [HwK]; · iexact HwK
  isplitl [HwV]; · iexact HwV
  iintro ⟨HO, ⟨ZK, ZV⟩, ⟨HsK, HsV⟩, HK, HV⟩
  dsimp only
  ihave HH := (show iprop(pts c kM fullShare (kat m c) ∗ pts c vM fullShare (vat m c) ∗ pts c woM fullShare (wostg m c)) ⊢ heads m c from Entails.refl _) $$ [HK HV Hw]
  · isplitl [HK]; · iexact HK
    isplitl [HV] <;> iassumption
  rw [runs_bind]
  iapply (part4 m c _)
  isplitl [HH]; · iexact HH
  iintro HH
  rw [runs_bind]
  iapply (part5 m c _)
  isplitl [HH]; · iexact HH
  iintro HH
  dsimp only
  rw [runs_bind]
  iapply (part6 m c _)
  isplitl [HH]; · iexact HH
  iintro HH
  dsimp only
  rw [runs_bind]
  iapply (part7 m c _)
  isplitl [HH]; · iexact HH
  iintro HH
  rw [runs_bind]
  iapply (part8 m c _)
  isplitl [HH]; · iexact HH
  iintro HH
  dsimp only
  rw [runs_bind]
  iapply (part9 m c v2 _)
  isplitl [HH]; · iexact HH
  isplitl [Hac]; · iexact Hac
  isplitl [Hab]; · iexact Hab
  iintro %v318 ⟨HH, Hac, Hab⟩
  ihave HX := (exchange m c) $$ [HP HrT HaT Hab]
  · isplitl [HP]; · iexact HP
    isplitl [HrT]; · iexact HrT
    isplitl [HaT] <;> iassumption
  icases HX with ⟨Hch, ⟨R6, R5, R4, R3, R2, R1, R0⟩, ⟨I6, I5, I4, I3, I2, I1, I0⟩⟩
  rw [runs_bind]
  iapply (part10 m K c v2 _)
  isplitr; · iexact Hk
  isplitl [HO]; · iexact HO
  isplitl [R6 R5 R4]
  · isplitl [R6]; · iexact R6
    isplitl [R5]; · iexact R5
    iexact R4
  iintro %r10 ⟨HO, C6, C5, C4⟩
  obtain ⟨v330, v342, v354, c128⟩ := r10
  dsimp only
  rw [runs_bind]
  iapply (part11 m K c v2 v354 c128 _)
  isplitr; · iexact Hk
  isplitl [HO]; · iexact HO
  isplitl [R3 R2]
  · isplitl [R3]; · iexact R3
    iexact R2
  iintro %r11 ⟨HO, C3, C2⟩
  obtain ⟨v366, v378⟩ := r11
  dsimp only
  rw [runs_bind]
  iapply (part12 m K c v2 v318 _)
  isplitr; · iexact Hk
  isplitl [HO]; · iexact HO
  isplitl [R1 R0]
  · isplitl [R1]; · iexact R1
    iexact R0
  isplitl [Hac]; · iexact Hac
  isplitl [W6]; · iexact W6
  iintro %v390 ⟨HO, C1, C0, Hac, G6⟩
  dsimp only
  rw [runs_bind]
  iapply (part13 m K c v330 v342 v354 _)
  isplitr; · iexact Hk
  isplitl [HO]; · iexact HO
  isplitl [W5]; · iexact W5
  isplitl [W4]; · iexact W4
  iintro ⟨HO, G5, G4⟩
  rw [runs_bind]
  iapply (part14 m K c v366 v378 v390 _)
  isplitr; · iexact Hk
  isplitl [HO]; · iexact HO
  isplitl [W3]; · iexact W3
  isplitl [W2]; · iexact W2
  isplitl [W1]; · iexact W1
  iintro %v470 %c0 ⟨HO, G3, G2, G1⟩
  dsimp only
  rw [runs_bind]
  iapply (part15 m K c v2 v470 c0 _)
  isplitr; · iexact Hk
  isplitl [HO]; · iexact HO
  isplitl [W0]; · iexact W0
  isplitl [HR]; · iexact HR
  isplitl [Has]; · iexact Has
  isplitl [I6]; · iexact I6
  iintro %r15 ⟨HO, G0, HR, D6, HD, T5, T4, T3, T2, T1, T0⟩
  obtain ⟨v491, v501⟩ := r15
  dsimp only
  ihave I5 := (ag1_intro m c 5) $$ [I5 T5]
  · isplitl [I5] <;> iassumption
  ihave I4 := (ag1_intro m c 4) $$ [I4 T4]
  · isplitl [I4] <;> iassumption
  ihave I3 := (ag1_intro m c 3) $$ [I3 T3]
  · isplitl [I3] <;> iassumption
  ihave I2 := (ag1_intro m c 2) $$ [I2 T2]
  · isplitl [I2] <;> iassumption
  ihave I1 := (ag1_intro m c 1) $$ [I1 T1]
  · isplitl [I1] <;> iassumption
  ihave I0 := (ag1_intro m c 0) $$ [I0 T0]
  · isplitl [I0] <;> iassumption
  rw [runs_bind]
  iapply (part16 m K c v2 v501 _)
  isplitr; · iexact Hk
  isplitl [HO]; · iexact HO
  isplitl [I5 I4 I3]
  · isplitl [I5]; · iexact I5
    isplitl [I4]; · iexact I4
    iexact I3
  iintro %r16 ⟨HO, D5, D4, D3⟩
  obtain ⟨v511, v521, v531⟩ := r16
  dsimp only
  rw [runs_bind]
  iapply (part17 m K c v2 v491 v531 _)
  isplitr; · iexact Hk
  isplitl [HO]; · iexact HO
  isplitl [I2 I1 I0]
  · isplitl [I2]; · iexact I2
    isplitl [I1]; · iexact I1
    iexact I0
  iintro %r17 ⟨HO, D2, D1, D0⟩
  obtain ⟨v541, v551⟩ := r17
  dsimp only
  rw [runs_bind]
  iapply (part18 m K c v2 v501 _)
  isplitr; · iexact Hk
  isplitl [HO]; · iexact HO
  isplitl [V6]; · iexact V6
  isplitl [V5]; · iexact V5
  isplitl [HR]; · iexact HR
  iintro %v591 ⟨HO, HR, E6, E5⟩
  dsimp only
  rw [runs_bind]
  iapply (part19 m K c v2 v511 v521 v591 _)
  isplitr; · iexact Hk
  isplitl [HO]; · iexact HO
  isplitl [V4]; · iexact V4
  isplitl [V3]; · iexact V3
  isplitl [HR]; · iexact HR
  iintro %v619 ⟨HO, HR, E4, E3⟩
  rw [runs_bind]
  iapply (part20 m K c v2 v531 v541 v619 _)
  isplitr; · iexact Hk
  isplitl [HO]; · iexact HO
  isplitl [E3]; · iexact E3
  isplitl [V2]; · iexact V2
  isplitl [HR]; · iexact HR
  iintro ⟨HO, HR, E3, E2⟩
  rw [runs_bind]
  iapply (part21 m K c v2 v551 _)
  isplitr; · iexact Hk
  isplitl [HO]; · iexact HO
  isplitl [V1]; · iexact V1
  isplitl [V0]; · iexact V0
  isplitl [HR]; · iexact HR
  iintro ⟨HO, HR, E1, E0⟩
  ihave Y6 := (wait1_intro (F := F) c (rsSs 6) NS) $$ [C6 Y6]
  · isplitl [C6] <;> iassumption
  ihave X6 := (wait1_intro (F := F) c (agSs 6) NS) $$ [D6 X6]
  · isplitl [D6] <;> iassumption
  ihave Y5 := (wait1_intro (F := F) c (rsSs 5) NS) $$ [C5 Y5]
  · isplitl [C5] <;> iassumption
  ihave X5 := (wait1_intro (F := F) c (agSs 5) NS) $$ [D5 X5]
  · isplitl [D5] <;> iassumption
  ihave Y4 := (wait1_intro (F := F) c (rsSs 4) NS) $$ [C4 Y4]
  · isplitl [C4] <;> iassumption
  ihave X4 := (wait1_intro (F := F) c (agSs 4) NS) $$ [D4 X4]
  · isplitl [D4] <;> iassumption
  ihave Y3 := (wait1_intro (F := F) c (rsSs 3) NS) $$ [C3 Y3]
  · isplitl [C3] <;> iassumption
  ihave X3 := (wait1_intro (F := F) c (agSs 3) NS) $$ [D3 X3]
  · isplitl [D3] <;> iassumption
  ihave Y2 := (wait1_intro (F := F) c (rsSs 2) NS) $$ [C2 Y2]
  · isplitl [C2] <;> iassumption
  ihave X2 := (wait1_intro (F := F) c (agSs 2) NS) $$ [D2 X2]
  · isplitl [D2] <;> iassumption
  ihave Y1 := (wait1_intro (F := F) c (rsSs 1) NS) $$ [C1 Y1]
  · isplitl [C1] <;> iassumption
  ihave X1 := (wait1_intro (F := F) c (agSs 1) NS) $$ [D1 X1]
  · isplitl [D1] <;> iassumption
  ihave Y0 := (wait1_intro (F := F) c (rsSs 0) NS) $$ [C0 Y0]
  · isplitl [C0] <;> iassumption
  ihave X0 := (wait1_intro (F := F) c (agSs 0) NS) $$ [D0 X0]
  · isplitl [D0] <;> iassumption
  rw [runs_bind]
  iapply (part22 m K c _)
  isplitr; · iexact Hk
  isplitl [HO]; · iexact HO
  isplitl [Y6 Y5 Y4 Y3]
  · isplitl [Y6]; · iexact Y6
    isplitl [Y5]; · iexact Y5
    isplitl [Y4]; · iexact Y4
    iexact Y3
  iintro ⟨HO, B6, B5, B4, B3⟩
  rw [runs_bind]
  iapply (part23 m K c _)
  isplitr; · iexact Hk
  isplitl [HO]; · iexact HO
  isplitl [Y2 Y1 Y0]
  · isplitl [Y2]; · iexact Y2
    isplitl [Y1]; · iexact Y1
    iexact Y0
  isplitl [X6 X5]
  · isplitl [X6]; · iexact X6
    iexact X5
  iintro ⟨HO, B2, B1, B0, A6, A5⟩
  iapply (do_agS m K c 4 rfl credit_ags) $$ [HO X4]
  · isplitr; · iexact Hk
    isplitl [HO] <;> iassumption
  iintro ⟨HO, U4, M4⟩
  ihave A4 := (backA_intro m c 4) $$ [U4 M4]
  · isplitl [U4] <;> iassumption
  iapply (do_agS m K c 3 rfl credit_ags) $$ [HO X3]
  · isplitr; · iexact Hk
    isplitl [HO] <;> iassumption
  iintro ⟨HO, U3, M3⟩
  ihave A3 := (backA_intro m c 3) $$ [U3 M3]
  · isplitl [U3] <;> iassumption
  iapply (do_agS m K c 2 rfl credit_ags) $$ [HO X2]
  · isplitr; · iexact Hk
    isplitl [HO] <;> iassumption
  iintro ⟨HO, U2, M2⟩
  ihave A2 := (backA_intro m c 2) $$ [U2 M2]
  · isplitl [U2] <;> iassumption
  iapply (do_agS m K c 1 rfl credit_ags) $$ [HO X1]
  · isplitr; · iexact Hk
    isplitl [HO] <;> iassumption
  iintro ⟨HO, U1, M1⟩
  ihave A1 := (backA_intro m c 1) $$ [U1 M1]
  · isplitl [U1] <;> iassumption
  iapply (runs_ret c)
  iapply (do_agS m K c 0 rfl credit_ags) $$ [HO X0]
  · isplitr; · iexact Hk
    isplitl [HO] <;> iassumption
  iintro ⟨HO, U0, M0⟩
  ihave A0 := (backA_intro m c 0) $$ [U0 M0]
  · isplitl [U0] <;> iassumption
  iapply (runs_ret c)
  iapply Hc
  isplitl [HO]; · iexact HO
  unfold ends res
  icases HR with ⟨%f, %hf, HR⟩
  have hf' := good_all m c (rows7 c) (rows7_all c) f hf
  subst hf'
  simp only [seven]
  isplitl [ZB ZK ZV]
  · isplitl [ZB]; · iexact ZB
    isplitl [ZK]; · iexact ZK
    iexact ZV
  isplitl [HsK HsV]
  · isplitl [HsK]; · iexact HsK
    iexact HsV
  isplitl [Hx Hq HH Hac]
  · isplitl [Hx]; · iexact Hx
    isplitl [Hq]; · iexact Hq
    isplitl [HH]; · iexact HH
    iexact Hac
  isplitl [Hch HD]
  · isplitl [Hch]; · iexact Hch
    iexact HD
  isplitl [G6 G5 G4 G3 G2 G1 G0]
  · isplitl [G6]; · iexact G6
    isplitl [G5]; · iexact G5
    isplitl [G4]; · iexact G4
    isplitl [G3]; · iexact G3
    isplitl [G2]; · iexact G2
    isplitl [G1]; · iexact G1
    iexact G0
  isplitl [E6 E5 E4 E3 E2 E1 E0]
  · isplitl [E6]; · iexact E6
    isplitl [E5]; · iexact E5
    isplitl [E4]; · iexact E4
    isplitl [E3]; · iexact E3
    isplitl [E2]; · iexact E2
    isplitl [E1]; · iexact E1
    iexact E0
  isplitl [B6 B5 B4 B3 B2 B1 B0]
  · isplitl [B6]; · iexact B6
    isplitl [B5]; · iexact B5
    isplitl [B4]; · iexact B4
    isplitl [B3]; · iexact B3
    isplitl [B2]; · iexact B2
    isplitl [B1]; · iexact B1
    iexact B0
  isplitl [A6 A5 A4 A3 A2 A1 A0]
  · isplitl [A6]; · iexact A6
    isplitl [A5]; · iexact A5
    isplitl [A4]; · iexact A4
    isplitl [A3]; · iexact A3
    isplitl [A2]; · iexact A2
    isplitl [A1]; · iexact A1
    iexact A0
  iexact HR

end Cert.KernelIdealProof

end
-- ==== Proof.Deal.lean ====
/-
What the launch deals every device: the cells' rounds and their duty tokens are minted, every cell's invariant is
allocated, and each token goes to the device that pays its duty; then the credit of what the devices owe one another.
-/
module

public import proofs.«01_k».proof.Proof.Exchange

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## A conjunction over the cells of a device, by use -/

theorem sep_assoc_at (P Q R : sProp 𝕄) : iprop((P ∗ Q) ∗ R) = iprop(P ∗ Q ∗ R) :=
  equiv_iff.mp ⟨BI.sep_assoc, BI.sep_assoc'⟩

theorem seven_up (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The kernel's own transfer semaphores, 4 to 33. -/
abbrev osem : Fin 30 → SemLoc sig := fun k => .dma (⟨k.val + 4, Nat.add_lt_add_right k.isLt 4⟩ : Fin 34)

/-- The conjunction of `Φ` over those semaphores: the two local copies', then the departures' and arrivals' of each exchange. -/
def dmaEach (Φ : SemLoc sig → sProp 𝕄) : sProp 𝕄 :=
  iprop((Φ (.dma kS) ∗ Φ (.dma vS)) ∗ (bigSep Finset.univ fun s : Fin 7 => Φ (.dma (rsSs s))) ∗ (bigSep Finset.univ fun s : Fin 7 => Φ (.dma (rsRs s)))
    ∗ (bigSep Finset.univ fun s : Fin 7 => Φ (.dma (agSs s))) ∗ bigSep Finset.univ fun s : Fin 7 => Φ (.dma (agRs s)))

theorem osem_each (Φ : SemLoc sig → sProp 𝕄) : (bigSep Finset.univ fun k : Fin 30 => Φ (osem k)) = dmaEach Φ := by
  rw [bigSep_univ_eq_bigSepL [0, 1, 2, 3, 4, 5, 6, 7, 8, 9, 10, 11, 12, 13, 14, 15, 16, 17, 18, 19, 20, 21, 22, 23, 24, 25, 26, 27, 28, 29] (by decide) (by decide) (fun k : Fin 30 => Φ (osem k))]
  unfold dmaEach
  simp only [seven_up, sep_assoc_at]
  rfl
theorem csem_each (Φ : SemLoc sig → sProp 𝕄) : (bigSep Finset.univ fun k : Fin 31 => Φ (csem k)) = iprop(Φ (.reg barS) ∗ dmaEach Φ) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide) (fun k : Fin 31 => Φ (csem k))]
  unfold dmaEach
  simp only [seven_up, sep_assoc_at]
  rfl

/-! ## The minted rounds and tokens -/

theorem kcell_injective : Function.Injective (kcell : Dev nD × Fin 31 → GSem nD τ sig) := fun a b h =>
  Prod.ext (congrArg (fun g : GSem nD τ sig => g.1.1) h) (csem_injective (congrArg Prod.snd h))
def ownCells : Finset (GSem nD τ sig) := Finset.univ.map ⟨kcell, kcell_injective⟩

/-- One token for each own cell and each of the seven duties; only the barrier's cells use more than the first. -/
abbrev tokOf (x : Dev nD × Fin 31 × Fin 7) : GSem nD τ sig × ℕ × Fin 7 := (kcell (x.1, x.2.1), 0, x.2.2)
theorem tokOf_injective : Function.Injective (tokOf : Dev nD × Fin 31 × Fin 7 → GSem nD τ sig × ℕ × Fin 7) := fun a b h => by
  have h1 : (a.1, a.2.1) = (b.1, b.2.1) := kcell_injective (congrArg Prod.fst h)
  exact Prod.ext (congrArg (fun x : Dev nD × Fin 31 => x.1) h1)
    (Prod.ext (congrArg (fun x : Dev nD × Fin 31 => x.2) h1) (congrArg (fun x : GSem nD τ sig × ℕ × Fin 7 => x.2.2) h))
def ownToks : Finset (GSem nD τ sig × ℕ × Fin 7) := Finset.univ.map ⟨tokOf, tokOf_injective⟩

def u₀ : UU := (initOf (Pipeline.cells cfgs cellOf_inj) (Pipeline.launchToks cfgs cellOf_inj), initOf ownCells ownToks)

/-- The tokens of device `c`'s own cells. -/
def toks (c : Dev nD) : sProp 𝕄 := bigSep Finset.univ fun k : Fin 31 => bigSep Finset.univ fun d : Fin 7 => dutyA (F := F) (kcell (c, k)) d
/-- Its positions at its own cells. -/
def places (c : Dev nD) : sProp 𝕄 := bigSep Finset.univ fun k : Fin 31 => atA (F := F) (kcell (c, k))

def G (c : Dev nD) : sProp 𝕄 :=
  iprop((bigSep Finset.univ fun k : Fin 31 => roundState ER (Rd m) (kcell (c, k)) 0)
    ∗ (bigSep Finset.univ fun k : Fin 31 => reached ER (kcell (c, k)) 0) ∗ places (F := F) c ∗ toks (F := F) c)

theorem fund_own : BI.own (ER (initOf ownCells ownToks)) ⊢ (|==> bigSep Finset.univ (G m) : sProp 𝕄) := by
  have hX (Φ : GSem nD τ sig → sProp 𝕄) : bigSep ownCells Φ = bigSep Finset.univ fun c : Dev nD => bigSep Finset.univ fun k : Fin 31 => Φ (kcell (c, k)) := by
    unfold ownCells; rw [bigSep_map, bigSep_univ_prod]; rfl
  have hT : bigSep ownToks (fun x => (dutyTok ER x.1 x.2.1 x.2.2 : sProp 𝕄)) = bigSep Finset.univ fun c : Dev nD => toks (F := F) c := by
    unfold ownToks; rw [bigSep_map, bigSep_univ_prod]
    exact bigSep_congr fun c _ => by unfold toks; rw [bigSep_univ_prod]; rfl
  iintro HX
  imod (Rounds.fund ER (Rd m) ownCells ownToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat]; · iexact Hat
  iexact Htok

/-! ## The invariants, allocated from the semaphores at zero -/

theorem ownSems0_eq (c : Dev nD) : (Pipeline.ownSems0 (Ix := Unit) (Name := ℕ) (U := UU) (Lvl := ℕ) (Val := Elt F) (τ := τ) osem c : sProp 𝕄)
    = dmaEach fun sm => semVal ((c : Thread nD τ), sm) 0 := by
  unfold Pipeline.ownSems0; exact osem_each (F := F) fun sm => semVal ((c : Thread nD τ), sm) 0
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 31 => semVal (kcell (c, k)) 0 : sProp 𝕄) := by
  rw [ownSems0_eq, unscopedSems0_eq, csem_each (F := F) fun sm => semVal ((c : Thread nD τ), sm) 0]
  iintro ⟨HD, HB⟩
  isplitl [HB]; · iexact HB
  iexact HD

/-- A device's invariants, each under a name, and the rest of its share. -/
def alloc (c : Dev nD) : sProp 𝕄 :=
  iprop((bigSep Finset.univ fun k : Fin 31 => iprop(∃ κ : ℕ, cellInv ER (Rd m) κ (kcell (c, k))))
    ∗ (bigSep Finset.univ fun k : Fin 31 => reached ER (kcell (c, k)) 0) ∗ places (F := F) c ∗ toks (F := F) c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> alloc m c := by
  have hinv : iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G alloc
  iintro ⟨Hos, Hus, Hst, Hr, Hrest⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hr]; · iexact Hr
  iexact Hrest

/-! ## Each token to its payer -/

/-- A slot's writer and the slot, for the device and the slot. -/
def spin : Dev nD × Fin 7 ≃ Dev nD × Fin 7 :=
  ⟨fun x => (dn x.1 x.2, x.2), fun x => (up x.1 x.2, x.2), fun x => Prod.ext (up_dn x.1 x.2) rfl, fun x => Prod.ext (dn_up x.1 x.2) rfl⟩

theorem deal_dn (Φ : Dev nD → Fin 7 → sProp 𝕄) : (bigSep Finset.univ fun c : Dev nD => bigSep Finset.univ fun s : Fin 7 => Φ c s)
    = bigSep Finset.univ fun c : Dev nD => bigSep Finset.univ fun s : Fin 7 => Φ (dn c s) s := by
  have h : bigSep Finset.univ (fun x : Dev nD × Fin 7 => Φ x.1 x.2) = bigSep Finset.univ fun x : Dev nD × Fin 7 => Φ (dn x.1 x.2) x.2 :=
    bigSep_univ_equiv spin (fun x : Dev nD × Fin 7 => Φ x.1 x.2)
  rwa [bigSep_univ_prod, bigSep_univ_prod] at h
theorem deal_up (Φ : Dev nD → Fin 7 → sProp 𝕄) : (bigSep Finset.univ fun c : Dev nD => bigSep Finset.univ fun s : Fin 7 => Φ c s)
    = bigSep Finset.univ fun c : Dev nD => bigSep Finset.univ fun s : Fin 7 => Φ (up c s) s := by
  have h : bigSep Finset.univ (fun x : Dev nD × Fin 7 => Φ x.1 x.2) = bigSep Finset.univ fun x : Dev nD × Fin 7 => Φ (up x.1 x.2) x.2 :=
    bigSep_univ_equiv spin.symm (fun x : Dev nD × Fin 7 => Φ x.1 x.2)
  rwa [bigSep_univ_prod, bigSep_univ_prod] at h

/-- The tokens of the duties that device `c` pays. -/
def payToks (c : Dev nD) : sProp 𝕄 :=
  iprop(sigT (F := F) c ∗ rsT (F := F) c ∗ agT (F := F) c ∗ (dutyA (dmaCell c kS) 0 ∗ dutyA (dmaCell c vS) 0))

/-- A device's own tokens: its barrier's seven, and the first of each of its transfer cells. -/
def ownT (c : Dev nD) : sProp 𝕄 :=
  iprop((bigSep Finset.univ fun d : Fin 7 => dutyA (F := F) (barCell c) d) ∗ dmaEach fun sm => dutyA (F := F) ((c : Thread nD τ), sm) 0)

theorem toks_own (c : Dev nD) : toks (F := F) c ⊢ ownT (F := F) c := by
  have h0 (g : GSem nD τ sig) : (bigSep Finset.univ fun d : Fin 7 => dutyA (F := F) g d) ⊢ dutyA (F := F) g 0 := bigSep_elim (Finset.mem_univ (0 : Fin 7))
  have h7 (f : Fin 7 → DmaSem sig) : (bigSep Finset.univ fun s : Fin 7 => bigSep Finset.univ fun d : Fin 7 => dutyA (F := F) ((c : Thread nD τ), .dma (f s)) d)
      ⊢ bigSep Finset.univ fun s : Fin 7 => dutyA (F := F) ((c : Thread nD τ), .dma (f s)) 0 := bigSep_mono fun s _ => h0 _
  unfold toks ownT
  rw [csem_each (F := F) fun sm => bigSep Finset.univ fun d : Fin 7 => dutyA (F := F) ((c : Thread nD τ), sm) d]
  unfold dmaEach
  iintro ⟨HB, ⟨HK, HV⟩, H1, H2, H3, H4⟩
  isplitl [HB]; · iexact HB
  isplitl [HK HV]
  · isplitl [HK]
    · iapply (h0 _); iexact HK
    · iapply (h0 _); iexact HV
  isplitl [H1]; · iapply (h7 rsSs); iexact H1
  isplitl [H2]; · iapply (h7 rsRs); iexact H2
  isplitl [H3]; · iapply (h7 agSs); iexact H3
  iapply (h7 agRs); iexact H4

theorem toks_around : (bigSep Finset.univ fun c : Dev nD => toks (F := F) c) ⊢ bigSep Finset.univ fun c : Dev nD => payToks (F := F) c := by
  suffices h : (bigSep Finset.univ fun c : Dev nD => ownT (F := F) c) ⊢ bigSep Finset.univ fun c : Dev nD => payToks (F := F) c from
    (bigSep_mono fun c _ => toks_own (F := F) c).trans h
  unfold ownT payToks dmaEach sigT rsT agT
  simp only [bigSep_sep']
  rw [deal_up (F := F) fun c s => dutyA (F := F) (barCell c) s, deal_dn (F := F) fun c s => dutyA (F := F) (dmaCell c (rsRs s)) 0,
    deal_dn (F := F) fun c s => dutyA (F := F) (dmaCell c (agRs s)) 0]
  iintro ⟨HB, ⟨HK, HV⟩, H1, H2, H3, H4⟩
  isplitl [HB]; · iexact HB
  isplitl [H1 H2]
  · isplitl [H1] <;> iassumption
  isplitl [H3 H4]
  · isplitl [H3] <;> iassumption
  isplitl [HK] <;> iassumption

/-- What a device has of the schedule after the deal. -/
def G' (c : Dev nD) : sProp 𝕄 := iprop((∃ K, records m K) ∗ places (F := F) c ∗ payToks (F := F) c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather (K : Dev nD × Fin 31 → ℕ) (c : Dev nD) : iprop(records m K ∗ (places (F := F) c ∗ payToks (F := F) c)) ⊢ G' m c := by
  unfold G'
  iintro ⟨#HR, HP, HT⟩
  isplitr
  · iexists K; iexact HR
  isplitl [HP] <;> iassumption

theorem regroup : (bigSep Finset.univ fun c : Dev nD => alloc m c) ⊢ bigSep Finset.univ (G' m) := by
  unfold alloc
  rw [bigSep_sep', bigSep_sep', bigSep_sep', ← bigSep_univ_prod (fun ck : Dev nD × Fin 31 => iprop(∃ κ : ℕ, cellInv ER (Rd m) κ (kcell ck))),
    ← bigSep_univ_prod (fun ck : Dev nD × Fin 31 => (reached ER (kcell ck) 0 : sProp 𝕄))]
  iintro ⟨HI, #HR, Hat, Htok⟩
  ihave HK := (BI.bigSep_exists_pi Finset.univ (fun (ck : Dev nD × Fin 31) (κ : ℕ) => (cellInv ER (Rd m) κ (kcell ck) : sProp 𝕄))) $$ HI
  icases HK with ⟨%K, #HI⟩
  ihave Htk := (toks_around (F := F)) $$ Htok
  iapply (with_persistent (F := F) (R := records m K) fun c _ => gather m K c)
  isplitr
  · unfold records; rw [bigSep_sep']
    isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What an entry of a list owes cell `g`. -/
def due (g : GSem nD τ sig) (p : GSem nD τ sig × ℕ) : ℕ := if g = p.1 then p.2 else 0
theorem owed_sum (g : GSem nD τ sig) (l : List (GSem nD τ sig × ℕ)) : owedL l g () = (l.map (due g)).sum := by
  induction l with
  | nil => rfl
  | cons p l ih =>
    unfold owedL
    rw [Pi.add_apply, Finsupp.add_apply, ih, List.map_cons, List.sum_cons, Nat.add_comm, tallyAt_apply]
    congr 1
    unfold due
    by_cases h : g = p.1
    · rw [if_pos ⟨h, rfl⟩, if_pos h]
    · rw [if_neg fun h' => h h'.1, if_neg h]

theorem due_none (g : GSem nD τ sig) (l : List (GSem nD τ sig × ℕ)) (h : ∀ p ∈ l, g ≠ p.1) : (l.map (due g)).sum = 0 :=
  List.sum_eq_zero fun x hx => by
    obtain ⟨p, hp, rfl⟩ := List.mem_map.mp hx
    exact if_neg (h p hp)

/-- Which of the devices and slots concern one device's slot: exactly one. -/
theorem once (c : Dev nD) (s : Fin 7) : ∑ d : Dev nD, (downward.map fun t => if c = dn d t ∧ s = t then 1 else 0).sum = 1 := by revert c s; decide
/-- Each device signals each other once. -/
theorem seven_signals (c : Dev nD) : ∑ d : Dev nD, (upward.map fun t => if c = up d t then 1 else 0).sum = 7 := by revert c; decide

theorem cell_dev {a b : Dev nD} {x y : SemLoc sig} (h : (((a : Thread nD τ), x) : GSem nD τ sig) = ((b : Thread nD τ), y)) : a = b ∧ x = y :=
  ⟨congrArg (fun g : GSem nD τ sig => g.1.1) h, congrArg Prod.snd h⟩

theorem due_slot (c d : Dev nD) (s : Fin 7) (q : Fin 7 → DmaSem sig) (hq : Function.Injective q) (N : ℕ) :
    (((downward.map fun t => (dmaCell (dn d t) (q t), N))).map (due (dmaCell c (q s)))).sum
      = N * (downward.map fun t => if c = dn d t ∧ s = t then 1 else 0).sum := by
  rw [List.map_map, ← List.sum_map_mul_left]
  refine congrArg List.sum (List.map_congr_left fun t _ => ?_)
  show (if dmaCell c (q s) = dmaCell (dn d t) (q t) then N else 0) = N * if c = dn d t ∧ s = t then 1 else 0
  by_cases h : c = dn d t ∧ s = t
  · rw [if_pos h, if_pos (by rw [← h.1, ← h.2]), Nat.mul_one]
  · rw [if_neg h, if_neg (fun e => h ⟨(cell_dev e).1, hq (SemLoc.dma.inj (cell_dev e).2)⟩), Nat.mul_zero]

theorem rsRs_injective : Function.Injective rsRs := by decide
theorem agRs_injective : Function.Injective agRs := by decide
theorem rs_ne_ag (s t : Fin 7) : rsRs s ≠ agRs t := by revert s t; decide

theorem bar_total (c : Dev nD) : ∑ d : Dev nD, O₀ d (barCell c) () = 7 := by
  refine (Finset.sum_congr rfl fun d _ => ?_).trans (seven_signals c)
  unfold O₀
  rw [owed_sum, List.map_append, List.sum_append, due_none _ (rsL d downward ++ agL d downward), Nat.add_zero]
  · unfold barL
    rw [List.map_map]
    refine congrArg List.sum (List.map_congr_left fun t _ => ?_)
    show (if barCell c = barCell (up d t) then 1 else 0) = if c = up d t then 1 else 0
    by_cases h : c = up d t
    · rw [if_pos h, if_pos (by rw [← h])]
    · rw [if_neg h, if_neg fun e => h (cell_dev e).1]
  · intro p hp
    rcases List.mem_append.mp hp with hp | hp <;>
    · obtain ⟨t, -, rfl⟩ := List.mem_map.mp hp
      exact fun e => by cases (cell_dev e).2
theorem rs_total (c : Dev nD) (s : Fin 7) : ∑ d : Dev nD, O₀ d (dmaCell c (rsRs s)) () = NS := by
  refine (Finset.sum_congr rfl fun d _ => ?_).trans ((Finset.mul_sum _ _ NS).symm.trans (by rw [once c s, Nat.mul_one]))
  unfold O₀
  rw [owed_sum, List.map_append, List.map_append, List.sum_append, List.sum_append, due_none _ (barL d upward), due_none _ (agL d downward), Nat.zero_add, Nat.add_zero]
  · exact due_slot c d s rsRs rsRs_injective NS
  · intro p hp
    obtain ⟨t, -, rfl⟩ := List.mem_map.mp hp
    exact fun e => rs_ne_ag s t (SemLoc.dma.inj (cell_dev e).2)
  · intro p hp
    obtain ⟨t, -, rfl⟩ := List.mem_map.mp hp
    exact fun e => by cases (cell_dev e).2
theorem ag_total (c : Dev nD) (s : Fin 7) : ∑ d : Dev nD, O₀ d (dmaCell c (agRs s)) () = NS := by
  refine (Finset.sum_congr rfl fun d _ => ?_).trans ((Finset.mul_sum _ _ NS).symm.trans (by rw [once c s, Nat.mul_one]))
  unfold O₀
  rw [owed_sum, List.map_append, List.map_append, List.sum_append, List.sum_append, due_none _ (barL d upward), due_none _ (rsL d downward), Nat.zero_add, Nat.zero_add]
  · exact due_slot c d s agRs agRs_injective NS
  · intro p hp
    obtain ⟨t, -, rfl⟩ := List.mem_map.mp hp
    exact fun e => rs_ne_ag t s (SemLoc.dma.inj (cell_dev e).2).symm
  · intro p hp
    obtain ⟨t, -, rfl⟩ := List.mem_map.mp hp
    exact fun e => by cases (cell_dev e).2

theorem launch_credit (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- What device `c` is owed at launch. -/
def credits (c : Dev nD) : sProp 𝕄 :=
  iprop(creditA (F := F) (barCell c) 7 ∗ (bigSep Finset.univ fun s : Fin 7 => creditA (F := F) (dmaCell c (rsRs s)) NS)
    ∗ bigSep Finset.univ fun s : Fin 7 => creditA (F := F) (dmaCell c (agRs s)) NS)

theorem creds (c : Dev nD) : (Pipeline.launchCred O₀ c : sProp 𝕄) ⊢ credits (F := F) c := by
  unfold Pipeline.launchCred
  suffices h : (bigSep Finset.univ fun k : Fin 31 => cred (tallyOn ((c : Thread nD τ), csem k) (launchCredit (Pipeline.owing O₀) 0 ((c : Thread nD τ), csem k)))) ⊢ credits (F := F) c by
    have hs := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at hs
    exact BI.Entails.trans hs h
  rw [csem_each (F := F) fun sm => cred (tallyOn ((c : Thread nD τ), sm) (launchCredit (Pipeline.owing O₀) 0 ((c : Thread nD τ), sm)))]
  have h1 : cred (tallyOn (barCell c) (launchCredit (Pipeline.owing O₀) 0 (barCell c))) ⊢ creditA (F := F) (barCell c) 7 :=
    Entails.of_eq (by rw [launch_credit _ 7 (bar_total c)])
  have h2 : (bigSep Finset.univ fun s : Fin 7 => cred (tallyOn (dmaCell c (rsRs s)) (launchCredit (Pipeline.owing O₀) 0 (dmaCell c (rsRs s)))))
      ⊢ bigSep Finset.univ fun s : Fin 7 => creditA (F := F) (dmaCell c (rsRs s)) NS :=
    Entails.of_eq (bigSep_congr fun s _ => by rw [launch_credit _ NS (rs_total c s)])
  have h3 : (bigSep Finset.univ fun s : Fin 7 => cred (tallyOn (dmaCell c (agRs s)) (launchCredit (Pipeline.owing O₀) 0 (dmaCell c (agRs s)))))
      ⊢ bigSep Finset.univ fun s : Fin 7 => creditA (F := F) (dmaCell c (agRs s)) NS :=
    Entails.of_eq (bigSep_congr fun s _ => by rw [launch_credit _ NS (ag_total c s)])
  unfold dmaEach credits
  iintro ⟨HB, -, -, H2, -, H4⟩
  isplitl [HB]; · iapply h1; iexact HB
  isplitl [H2]; · iapply h2; iexact H2
  iapply h3; iexact H4

/-- Tokens, positions and credits are what the body begins with. -/
theorem begins_intro (c : Dev nD) : iprop(payToks (F := F) c ∗ places (F := F) c ∗ credits (F := F) c) ⊢ begins (F := F) c := by
  unfold payToks places credits begins rsA agA rsW agW wait1
  rw [csem_each (F := F) fun sm => atA (F := F) ((c : Thread nD τ), sm), bigSep_sep', bigSep_sep']
  unfold dmaEach
  iintro ⟨⟨HT, HrT, HaT, HL⟩, ⟨HB, ⟨HK, HV⟩, P1, P2, P3, P4⟩, HcB, C1, C2⟩
  isplitl [HT]; · iexact HT
  isplitl [HrT]; · iexact HrT
  isplitl [HaT]; · iexact HaT
  isplitl [HL]; · iexact HL
  isplitl [HB HK HV]
  · isplitl [HB]; · iexact HB
    isplitl [HK] <;> iassumption
  isplitl [P1 P3]
  · isplitl [P1] <;> iassumption
  isplitl [HcB]; · iexact HcB
  isplitl [C1 P2]
  · isplitl [C1] <;> iassumption
  isplitl [C2] <;> iassumption

end Cert.KernelIdealProof

end
-- ==== Proof.Launch.lean ====
/-
The run of the whole program: the body met at the region's one point, and the launch that deals every device its part.
Every device's result array ends at the computed contents, its operands unchanged, every semaphore counter at zero.
-/
module

public import proofs.«01_k».proof.Proof.Body
public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (ρ : Dev nD → PrngReg)

/-! ## What the region is entered and left with -/

/-- The two operands that the body copies from, whole, at their launch contents. -/
def args (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

def start (c : Dev nD) : sProp 𝕄 := iprop(G' m c ∗ credits (F := F) c ∗ levAts L lv ∗ args m c)

abbrev scratch (c : Dev nD) : sProp 𝕄 := Pipeline.scopedRest (Ix := Unit) (Name := ℕ) (U := UU) (Lvl := ℕ) (Val := Elt F) spec0 c
abbrev zeros (c : Dev nD) : sProp 𝕄 := Pipeline.ownSems0 (Ix := Unit) (Name := ℕ) (U := UU) (Lvl := ℕ) (Val := Elt F) (τ := τ) osem c

def Φ₀ (c : Dev nD) : sProp 𝕄 := iprop(start m c ∗ scratch (F := F) c)
def kept (c : Dev nD) : sProp 𝕄 := iprop(unscopedSems0 c ∗ args m c)
def Φ₁ (c : Dev nD) : sProp 𝕄 := iprop(kept m c ∗ zeros (F := F) c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqstg m c
    | ⟨2, _⟩ => wostg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem pts_whole (c : Dev nD) (b : Ref sig .tc) (f : Buf (Elt F) ((c : Thread nD τ).loc b)) :
    pts (F := F) c (Memref.whole b) fullShare f = (((c : Thread nD τ).loc b) ↦{fullShare} f) := by
  unfold pts; rw [View.set_whole]
theorem any_whole (c : Dev nD) (b : Ref sig .tc) :
    (iprop(∃ f : Buf (Elt F) ((c : Thread nD τ).loc b), ((c : Thread nD τ).loc b) ↦{fullShare} f) : sProp 𝕄) = ptsAny (F := F) c (Memref.whole b) := by
  unfold ptsAny; simp only [pts_whole]

/-- The buffers that are no window's, as the memrefs the body names. -/
theorem scratch_eq (c : Dev nD) : scratch (F := F) c = iprop(ptsAny (F := F) c kM ∗ ptsAny (F := F) c vM ∗ ptsAny (F := F) c accM ∗ ptsAny (F := F) c abfM ∗ ptsAny (F := F) c agsM
    ∗ ptsAny (F := F) c rsM ∗ ptsAny (F := F) c agM) := by
  rw [show scratch (F := F) c = _ from scopedRest0_eq c]
  simp only [any_whole]

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem stg_out (c : Dev nD) (b : Ref sig .tc) (X : b.ty.Contents (Elt F)) : stg (F := F) c b X ⊢ pts c (Memref.whole b) fullShare X := by
  rw [pts_whole]
  iintro ⟨%f, %h, H⟩
  subst h; iexact H
theorem stg_in (c : Dev nD) (b : Ref sig .tc) (X : b.ty.Contents (Elt F)) : pts c (Memref.whole b) fullShare X ⊢ stg (F := F) c b X := by
  rw [pts_whole]
  iintro H
  iexists X; isplitr; · (ipureintro; rfl)
  iexact H

/-! ## The body at the region's point -/

/-- The device's heads of the two operands, and the rest of them. -/
theorem args_cut (c : Dev nD) : args m c ⊢ iprop((pts c (kSrc c) fullShare (m ((c : Thread nD τ).loc main_arg2)) ∗ pts c (vSrc c) fullShare (m ((c : Thread nD τ).loc main_arg3)))
    ∗ (iprop(pts c (kSrc c) fullShare (m ((c : Thread nD τ).loc main_arg2)) ∗ pts c (vSrc c) fullShare (m ((c : Thread nD τ).loc main_arg3))) -∗ args m c)) := by
  have hk := pointsTo_split_subset (Ix := Unit) (Name := ℕ) (U := UU) (Lvl := ℕ) (q := fullShare) (f := m ((c : Thread nD τ).loc main_arg2)) (Finset.subset_univ (kSrc c).view.set)
  have hv := pointsTo_split_subset (Ix := Unit) (Name := ℕ) (U := UU) (Lvl := ℕ) (q := fullShare) (f := m ((c : Thread nD τ).loc main_arg3)) (Finset.subset_univ (vSrc c).view.set)
  unfold args
  iintro ⟨HK, HV⟩
  ihave HK := hk.1 $$ HK
  ihave HV := hv.1 $$ HV
  icases HK with ⟨HK, RK⟩
  icases HV with ⟨HV, RV⟩
  isplitl [HK HV]
  · isplitl [HK]; · iexact HK
    iexact HV
  iintro ⟨HK, HV⟩
  isplitl [HK RK]
  · iapply hk.2
    isplitl [HK]; · iexact HK
    iexact RK
  · iapply hv.2
    isplitl [HV]; · iexact HV
    iexact RV

/-- From what the body leaves: the counters at zero, the buffers whole again, the windows' staging buffers. -/
theorem ends_out (c : Dev nD) : ends m c ⊢ iprop((unscopedSems0 c ∗ zeros (F := F) c ∗ scratch (F := F) c)
    ∗ (pts c (kSrc c) fullShare (m ((c : Thread nD τ).loc main_arg2)) ∗ pts c (vSrc c) fullShare (m ((c : Thread nD τ).loc main_arg3)))
    ∗ (pts c xM fullShare (xstg m c) ∗ pts c wqM fullShare (wqstg m c) ∗ pts c woM fullShare (wostg m c) ∗ pts c outM fullShare (outAt m c))) := by
  unfold ends heads got gotA back backA
  rw [show zeros (F := F) c = _ from ownSems0_eq c, unscopedSems0_eq, scratch_eq, bigSep_sep', bigSep_sep', bigSep_sep', bigSep_sep']
  unfold dmaEach
  iintro ⟨⟨ZB, ZK, ZV⟩, HS, ⟨Hx, Hq, ⟨Hk, Hv, Hw⟩, Hac⟩, ⟨Hc, Hd⟩, ⟨Z1, Hrs⟩, ⟨Z2, Hag⟩, ⟨Z3, Hch⟩, ⟨Z4, Hts⟩, Ho⟩
  isplitl [ZB ZK ZV Hk Hv Hac Hc Hd Z1 Hrs Z2 Hag Z3 Hch Z4 Hts]
  · isplitl [ZB]; · iexact ZB
    isplitl [ZK ZV Z1 Z2 Z3 Z4]
    · isplitl [ZK ZV]
      · isplitl [ZK] <;> iassumption
      isplitl [Z3]; · iexact Z3
      isplitl [Z1]; · iexact Z1
      isplitl [Z4]; · iexact Z4
      iexact Z2
    ihave Hrs := (Entails.of_eq (rs_slots c (rsBuf m c)).symm) $$ Hrs
    ihave Hag := (Entails.of_eq (ag_slots c (agBuf m c)).symm) $$ Hag
    ihave Hab := (Entails.of_eq (abf_chunks c (accR m c)).symm) $$ [Hc Hch]
    · isplitl [Hc] <;> iassumption
    ihave Hts := (Entails.of_eq (seven (fun s => pts (F := F) c agsM (shareTok fullShare 7 s) (totR m c)))) $$ Hts
    ihave Has := (ags_join c (totR m c)) $$ [Hd Hts]
    · isplitl [Hd]; · iexact Hd
      iexact Hts
    isplitl [Hk]; · iexists _; iexact Hk
    isplitl [Hv]; · iexists _; iexact Hv
    isplitl [Hac]; · iexists _; iexact Hac
    isplitl [Hab]; · iexists _; iexact Hab
    isplitl [Has]; · iexists _; iexact Has
    isplitl [Hrs]; · iexists _; iexact Hrs
    iexists _; iexact Hag
  isplitl [HS]; · iexact HS
  isplitl [Hx]; · iexact Hx
  isplitl [Hq]; · iexact Hq
  isplitl [Hw] <;> iassumption

theorem fin_N (t : Fin cfg0.N) : t = t0_0 := fin_N0 t
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

def bodyPre (c : Dev nD) : sProp 𝕄 :=
  iprop(Φ₀ m c ∗ (dats m ρ 0 c).owesAt () (t0_0 : Fin cfg0.N).castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m c ∗ (dats m ρ 0 c).owesAt () (t0_0 : Fin cfg0.N).succ
    ∗ stg c cc0_stg0_0 (xstg m c) ∗ stg c cc0_stg1_0 (wqstg m c) ∗ stg c cc0_stg2_0 (wostg m c) ∗ stg c cc0_stg3_0 (outAt m c))

theorem before_x (c : Dev nD) (d) : (dats m ρ 0 c).before (0 : Fin 4) t0_0 d = xstg m c := by unfold Dat.before; rw [if_pos (fetch0_0 t0_0)]; rfl
theorem before_wq (c : Dev nD) (d) : (dats m ρ 0 c).before (1 : Fin 4) t0_0 d = wqstg m c := by unfold Dat.before; rw [if_pos (fetch0_1 t0_0)]; rfl
theorem before_wo (c : Dev nD) (d) : (dats m ρ 0 c).before (2 : Fin 4) t0_0 d = wostg m c := by unfold Dat.before; rw [if_pos (fetch0_2 t0_0)]; rfl

theorem post_intro (c : Dev nD) : iprop((args m c -∗ args m c) ∗ owesL c [] ∗ args m c ∗ (unscopedSems0 c ∗ zeros (F := F) c ∗ scratch (F := F) c)
    ∗ (pts c xM fullShare (xstg m c) ∗ pts c wqM fullShare (wqstg m c) ∗ pts c woM fullShare (wostg m c) ∗ pts c outM fullShare (outAt m c)))
    ⊢ bodyPost m ρ c := by
  unfold bodyPost Φ₁ kept Dat.owesAt Pipeline.owesWithin owesL
  rw [show (dats m ρ 0 c).owed (t0_0 : Fin cfg0.N).succ = 0 from rfl]
  iintro ⟨-, ⟨%W, HO⟩, HA, ⟨ZB, ZD, HS⟩, Hx, Hq, Hw, Ho⟩
  isplitl [ZB ZD HS HA]
  · isplitl [ZB HA]
    · isplitl [ZB] <;> iassumption
    isplitl [ZD] <;> iassumption
  isplitl [HO]
  · iexists W; isplitr; · ipureintro; exact fun _ _ => Or.inl trivial
    iexact HO
  isplitl [Hx]; · iapply (stg_in c cc0_stg0_0 _); iexact Hx
  isplitl [Hq]; · iapply (stg_in c cc0_stg1_0 _); iexact Hq
  isplitl [Hw]; · iapply (stg_in c cc0_stg2_0 _); iexact Hw
  iapply (stg_in c cc0_stg3_0 _); iexact Ho

theorem body_at (c : Dev nD) : bodyPre m ρ c ⊢ runs c (Body (F := F)) fun _ => bodyPost m ρ c := by
  unfold bodyPre Φ₀ start G' Dat.owesAt Pipeline.owesWithin
  rw [scratch_eq]
  iintro ⟨⟨⟨⟨⟨%K, #HR⟩, HP, HT⟩, HC, #HL, HA⟩, Hsc⟩, ⟨%W, %hW, HO⟩, ⟨%d0, Hx⟩, ⟨%d1, Hq⟩, ⟨%d2, Hw⟩, ⟨%d3, %g3, %hg3, Ho⟩⟩
  simp only [before_x, before_wq, before_wo]
  ihave HB := (begins_intro (F := F) c) $$ [HT HP HC]
  · isplitl [HT]; · iexact HT
    isplitl [HP] <;> iassumption
  ihave HA := (args_cut m c) $$ HA
  icases HA with ⟨HA, HAr⟩
  iapply (body m K c fun _ => bodyPost m ρ c)
  isplitr
  · unfold know; isplitr; · iexact HR
    iexact HL
  isplitl [HO]; · unfold owesL; iexists W; iexact HO
  isplitl [HB]; · iexact HB
  isplitl [Hx Hq Hw Ho]
  · isplitl [Hx]; · iapply (stg_out c cc0_stg0_0 _); iexact Hx
    isplitl [Hq]; · iapply (stg_out c cc0_stg1_0 _); iexact Hq
    isplitl [Hw]; · iapply (stg_out c cc0_stg2_0 _); iexact Hw
    unfold res
    iexists g3
    isplitr; · ipureintro; exact fun i hi => absurd hi List.not_mem_nil
    iapply (Entails.of_eq (pts_whole (F := F) c cc0_stg3_0 g3).symm); iexact Ho
  isplitl [HA]; · iexact HA
  isplitl [Hsc]; · iexact Hsc
  iintro ⟨HO, HE⟩
  ihave HE := (ends_out m c) $$ HE
  icases HE with ⟨HZ, HA, HW⟩
  ihave HA := HAr $$ HA
  iapply (post_intro m ρ c)
  isplitr; · iintro H; iexact H
  isplitl [HO]; · iexact HO
  isplitl [HA]; · iexact HA
  isplitl [HZ] <;> iassumption

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_at m ρ c

/-! ## The launch's side conditions -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hlev, Hcr, -, HG⟩
  ihave Hc := (creds (F := F) c) $$ Hcr
  imodintro
  unfold start args
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) : (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁
  iintro H; iexact H

theorem stage_level : ∀ (w : Fin 4) (s : Fin (cfg0.win w).nbuf), semLevel (.dma ((cfg0.win w).sem s)) = 0 := by decide
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (stage_level w s).le _ (above_append (above_bar c _ Nat.one_pos) (above_append (above_rs c _ Nat.two_pos) (above_ag c _ (by decide))))
    · exact mayWait c _ 0 (stage_level w s).le [] (above_nil 0)

/-- What the final state holds: the operands that no window holds, unchanged, and the barrier's counter at zero. -/
def finals (c : Dev nD) (s : MemSt nD τ sig (Elt F)) : Prop :=
  (∀ sm : SemLoc sig, sm.isScoped .tc = false → s.sem ((c.tc : Thread nD τ), sm) = 0)
    ∧ s.mem ((c.tc : Thread nD τ).loc main_arg2) = m ((c.tc : Thread nD τ).loc main_arg2)
    ∧ s.mem ((c.tc : Thread nD τ).loc main_arg3) = m ((c.tc : Thread nD τ).loc main_arg3)

theorem read_finals (c : Dev nD) (s' : Phys nD τ sig (Elt F)) :
    iprop(kept m c ∗ emp ∗ SI s') ⊢ (|={Set.univ}=> iprop(⌜finals m c s'.mem⌝ ∗ SI s') : sProp 𝕄) := by
  unfold kept args
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hk, Buf.eq_of_forall_mem_univ hv⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ finals m c r.2

set_option maxRecDepth 8000 in
/-- From any memory with every counter at zero, every weakly fair execution of the program on its eight devices ends, with the
    arrays of the windows at their computed contents, the other operands unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := finals m) (hY := read_finals m)
    (hQ := fun _ h hs => ⟨fun c => ⟨fun w => (h c).1 w, (h c).2.2⟩, sem_eq_zero hs fun c => (h c).2.2.1⟩)

theorem final_arg0 (c : Dev nD) : finalA m ρ c (0 : Fin 4) = m ((c : Thread nD τ).loc main_arg0) := (dats (F := F) m ρ 0 c).arrAt_in (0 : Fin 4) rfl _
theorem final_arg1 (c : Dev nD) : finalA m ρ c (1 : Fin 4) = m ((c : Thread nD τ).loc main_arg1) := (dats (F := F) m ρ 0 c).arrAt_in (1 : Fin 4) rfl _
theorem final_arg4 (c : Dev nD) : finalA m ρ c (2 : Fin 4) = m ((c : Thread nD τ).loc main_arg4) := (dats (F := F) m ρ 0 c).arrAt_in (2 : Fin 4) rfl _

/-- The operands of every device after the run are what they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).1 (0 : Fin 4)).trans (final_arg0 m ρ c), ((h.1 c).1 (1 : Fin 4)).trans (final_arg1 m ρ c),
    (h.1 c).2.2.1, (h.1 c).2.2.2, ((h.1 c).1 (2 : Fin 4)).trans (final_arg4 m ρ c)⟩, h.2⟩) (run_main m ρ)

end Cert.KernelIdealProof

end
-- ==== Proof.Attention.lean ====
/-
The mathematics of the operator on extended reals: masked attention of one head, its part of the output product, and the
result as the sum of the parts of the sixty-four heads. Neither program appears here: both are read as these functions.
-/
module

public import Idealize.ShloMosaic.Lib.Pointwise

@[expose] public section

noncomputable section

namespace Cert.Attention

open Idealize.ShloMosaic

/-- The mask: a key no more than 128 positions away, or one of the first 32 keys, or any key for one of the first 32 rows. -/
def keepBit (i j : Fin 1024) : BitVec 1 :=
  IntOp.ori
    (IntOp.ori (IntOp.cmpi .sle (IntOp.absi (IntOp.subi (BitVec.ofNat 32 i) (BitVec.ofNat 32 j))) 128#32)
      (IntOp.cmpi .slt (BitVec.ofNat 32 j) 32#32))
    (IntOp.cmpi .slt (BitVec.ofNat 32 i) 32#32)

/-- A row always sees itself. -/
theorem keepBit_self (i : Fin 1024) : keepBit i i = 1#1 := by
  unfold keepBit
  rw [show IntOp.subi (BitVec.ofNat 32 i) (BitVec.ofNat 32 i) = 0#32 from BitVec.sub_self _,
    show IntOp.cmpi .sle (IntOp.absi 0#32) 128#32 = 1#1 by decide]
  generalize IntOp.cmpi .slt (BitVec.ofNat 32 i) 32#32 = b
  revert b; decide

variable (q k v : Fin 1024 → Fin 128 → EReal) (w : Fin 128 → Fin 1024 → EReal)

/-- The masked and scaled score of row `i` with key `j`. -/
def score (i j : Fin 1024) : EReal :=
  Scalar.select (keepBit i j) ((∑ x, q i x * k j x) * Ideal.ofBits .f32 0x3DB504F3#32) (Ideal.ofBits .f32 0xCE6E6B28#32)
/-- Its weight, and its share of the row. -/
def weight (i j : Fin 1024) : EReal :=
  Ideal.exp (score q k i j - Finset.fold max (Ideal.ofBits .f32 0xFF800000#32) (fun x => score q k i x) Finset.univ)
def share (i j : Fin 1024) : EReal := Ideal.div (weight q k i j) (∑ x, weight q k i x)
/-- The head's rows, and their product with the head's rows of the output weight. -/
def context (i : Fin 1024) (x : Fin 128) : EReal := ∑ j, share q k i j * v j x
def head (i n : Fin 1024) : EReal := ∑ x, context q k v i x * w x n

/-- Column `x` of head `g`. -/
abbrev at128 (g : Fin 64) (x : Fin 128) : Fin 8192 := ⟨g.val * 128 + x.val, by omega⟩

variable (x : Fin 1024 → Fin 1024 → EReal) (wq : Fin 1024 → Fin 8192 → EReal) (K V : Fin 1024 → Fin 64 → Fin 128 → EReal)
  (wo : Fin 8192 → Fin 1024 → EReal)

/-- The part of head `g`, and the result. -/
def part (g : Fin 64) (i n : Fin 1024) : EReal :=
  head (fun i d => ∑ e, x i e * wq e (at128 g d)) (fun j d => K j g d) (fun j d => V j g d) (fun d n => wo (at128 g d) n) i n
def result (i n : Fin 1024) : EReal := ∑ g, part x wq K V wo g i n

/-- Head `h` of device `c`'s eight. -/
abbrev headOf (c h : Fin 8) : Fin 64 := ⟨c.val * 8 + h.val, by omega⟩

/-- The result, device by device. -/
theorem result_devices (i n : Fin 1024) : result x wq K V wo i n = ∑ c : Fin 8, ∑ h : Fin 8, part x wq K V wo (headOf c h) i n :=
  Fin.sum_univ_tiles 8 8 rfl _

end Cert.Attention

end
-- ==== Proof.Heads.lean ====
/-
The device's partial sum, read at an index: each payload of the kernel's arithmetic adds the part of one or two heads to the
running sum, and the part of a head is the operator's (Proof/Attention.lean) of that head's queries, keys, values and rows of
the output weight. On extended reals a change of format is the identity.
-/
module

public import proofs.«01_k».proof.Proof.Contents
public import proofs.«01_k».proof.Proof.Attention

@[expose] public section

noncomputable section

namespace Cert.KernelIdealProof

open Cert.KernelIdeal Cert.KernelIdeal.Gen
open Idealize.ShloMosaic

def scoresV (q : FVec Ideal S1024x128 .f32) (k : Vec Ideal S1024x1x128 .f32) : FVec Ideal S1024x1024 .f32 :=
  select keep
    (mulf (matmul dot_S1024x128_S1024x128_S1024x1024_1_1_0_0_n_n none (truncf .bf16 q bitsLt_bf16_f32)
        (truncf .bf16 (shapeCast S1024x128 k shapeCasts_S1024x1x128_S1024x128) bitsLt_bf16_f32) (constant S1024x1024 .f32 0x00000000#32))
      (broadcast S1024x1024 (Scalar.ofBits .f32 0x3DB504F3#32)))
    (broadcast S1024x1024 (Scalar.ofBits .f32 0xCE6E6B28#32))

def weightsV (q : FVec Ideal S1024x128 .f32) (k : Vec Ideal S1024x1x128 .f32) : FVec Ideal S1024x1024 .f32 :=
  exp (subf (scoresV q k) (broadcastTo S1024x1024 (shapeCast S1024x1
    (multiReduction .maximumf [1] S1024 (scoresV q k) 0xFF800000#32 reduces_S1024x1024_S1024 (.inl rfl) rfl) shapeCasts_S1024_S1024x1) broadcasts_S1024x1_S1024x1024))

def probsV (q : FVec Ideal S1024x128 .f32) (k : Vec Ideal S1024x1x128 .f32) : FVec Ideal S1024x1024 .f32 :=
  divf (weightsV q k) (broadcastTo S1024x1024 (shapeCast S1024x1
    (multiReduction .add [1] S1024 (weightsV q k) 0x00000000#32 reduces_S1024x1024_S1024 (.inl rfl) rfl) shapeCasts_S1024_S1024x1) broadcasts_S1024x1_S1024x1024)

def headV (q : FVec Ideal S1024x128 .f32) (k v : Vec Ideal S1024x1x128 .f32) (w : Vec Ideal S128x1024 .f32) : FVec Ideal S1024x1024 .f32 :=
  matmul dot_S1024x128_S128x1024_S1024x1024_1_0_0_1_n_n none
    (truncf .bf16 (matmul dot_S1024x1024_S1024x128_S1024x128_1_0_0_1_n_n none (truncf .bf16 (probsV q k) bitsLt_bf16_f32)
      (truncf .bf16 (shapeCast S1024x128 v shapeCasts_S1024x1x128_S1024x128) bitsLt_bf16_f32) (constant S1024x128 .f32 0x00000000#32)) bitsLt_bf16_f32)
    (truncf .bf16 (shapeCast S128x1024 w shapeCasts_S128x1024_S128x1024) bitsLt_bf16_f32) (constant S1024x1024 .f32 0x00000000#32)

theorem keep_at (i j : Fin 1024) : keep (ix2 i j) = Attention.keepBit i j := by
  pointwise [keep, k0_pay3, k0_pay2]
  rfl

section At
variable (q : FVec Ideal S1024x128 .f32) (k v : Vec Ideal S1024x1x128 .f32) (w : Vec Ideal S128x1024 .f32)

abbrev qM : Fin 1024 → Fin 128 → EReal := fun i d => q (ix2 i d)
abbrev slabM (k : Vec Ideal S1024x1x128 .f32) : Fin 1024 → Fin 128 → EReal := fun j d => k (ix3 j (0 : Fin 1) d)

theorem scoresV_at (i j : Fin 1024) : scoresV q k (ix2 i j) = Attention.score (qM q) (slabM k) i j := by
  pointwise [scoresV]
  simp only [keep_at]
  rfl

theorem weightsV_at (i j : Fin 1024) : weightsV q k (ix2 i j) = Attention.weight (qM q) (slabM k) i j := by
  pointwise [weightsV]
  simp only [scoresV_at]
  rfl

theorem probsV_at (i j : Fin 1024) : probsV q k (ix2 i j) = Attention.share (qM q) (slabM k) i j := by
  pointwise [probsV]
  simp only [weightsV_at]
  rfl

theorem headV_at (i n : Fin 1024) : headV q k v w (ix2 i n) = Attention.head (qM q) (slabM k) (slabM v) (fun d n => w (ix2 d n)) i n := by
  pointwise [headV]
  simp only [probsV_at]
  rfl
end At

/-! ## The device's eight heads -/

variable (m : (ℓ : Loc nD τ sig) → Buf (Elt Ideal) ℓ) (c : Dev nD)

theorem slicesHead : ∀ h : Fin 8, S1024x1024.Slices ![0, 128 * h.val] S1024x128 := by decide

/-- The queries of head `h`. -/
def qHead (h : Fin 8) : FVec Ideal S1024x128 .f32 := extractStridedSlice S1024x128 ![0, 128 * h.val] (qAll m c) (slicesHead h)
/-- The part of head `h`. -/
def headAt (h : Fin 8) : FVec Ideal S1024x1024 .f32 := headV (qHead m c h) (kHead m c h) (vHead m c h) (wHead m c h)

theorem sum2_eq : sum2 m c = addf (addf k0_pay4 (headAt m c 0)) (headAt m c 1) := rfl
theorem sum3_eq : sum3 m c = addf (sum2 m c) (headAt m c 2) := rfl
theorem sum4_eq : sum4 m c = addf (sum3 m c) (headAt m c 3) := rfl
theorem sum6_eq : sum6 m c = addf (addf (sum4 m c) (headAt m c 4)) (headAt m c 5) := rfl
theorem sum7_eq : sum7 m c = addf (sum6 m c) (headAt m c 6) := rfl
theorem acc_eq : acc m c = shapeCast S1024x1024 (addf (sum7 m c) (headAt m c 7)) shapeCasts_S1024x1024_S1024x1024 := rfl
theorem accR_eq : accR m c = shapeCast S1024x1024 (truncf .bf16 (addf (sum7 m c) (headAt m c 7)) bitsLt_bf16_f32) shapeCasts_S1024x1024_S1024x1024 := rfl

/-- The partial sum is the sum of the eight parts, and so is the partial sum rounded. -/
theorem acc_at (i n : Fin 1024) : acc m c (ix2 i n) = ∑ h : Fin 8, headAt m c h (ix2 i n) := by
  pointwise [acc_eq, sum7_eq, sum6_eq, sum4_eq, sum3_eq, sum2_eq, k0_pay4]
  rw [Fin.sum_univ_eight]
  try simp only [zero_add]
theorem accR_at (i n : Fin 1024) : accR m c (ix2 i n) = ∑ h : Fin 8, headAt m c h (ix2 i n) := by
  refine Eq.trans ?_ (acc_at m c i n)
  pointwise [acc_eq, accR_eq]

end Cert.KernelIdealProof

end
-- ==== Proof.Reads.lean ====
/-
The operands of the heads, read at an index: what is staged is the device's operand, a head's keys and values are that head of
the whole keys and values, and its rows of the output weight are 128 rows of the device's block of it.
-/
module

public import proofs.«01_k».proof.Proof.Heads

@[expose] public section

noncomputable section

namespace Cert.KernelIdealProof

open Cert.KernelIdeal Cert.KernelIdeal.Gen
open Idealize.ShloMosaic Idealize.ShloMosaic.TcCoe

variable (m : (ℓ : Loc nD τ sig) → Buf (Elt Ideal) ℓ) (c : Dev nD)

theorem off1_eq : ∀ c : Dev nD, k0_off1 c = ![0, 0, 8 * c.val, 0] := by decide
theorem off3_eq : ∀ c : Dev nD, k0_off3 c = ![128 * c.val, 0] := by decide

/-! ## The staged operands -/

theorem xstg_eq : xstg m c = m ((c : Thread nD τ).loc main_arg0) :=
  Memref.read_access_unit_zero (Elt Ideal) main_arg0 (funext fun _ => Nat.zero_mul _) _ _
theorem wqstg_eq : wqstg m c = m ((c : Thread nD τ).loc main_arg1) :=
  Memref.read_access_unit_zero (Elt Ideal) main_arg1 (funext fun _ => Nat.zero_mul _) _ _
theorem wostg_eq : wostg m c = m ((c : Thread nD τ).loc main_arg4) :=
  Memref.read_access_unit_zero (Elt Ideal) main_arg4 (funext fun _ => Nat.zero_mul _) _ _

/-! ## A head's keys, values, rows of the output weight and queries -/

/-- Where the element of head `h` of device `c` is in the whole keys. -/
theorem slab_emb (j : Fin 1024) (h : Fin 8) (d : Fin 128) (hn : S1024x8x128.numel = S1x1024x8x128.numel) :
    (Rect.unit (s := S1x1024x64x128) (k0_off1 c) S1x1024x8x128.size (k0_off1_inb c)).emb (Shape.reshapeEquiv hn (ix3 j h d))
      = (ix4 (0 : Fin 1) j (Attention.headOf c h) d : S1x1024x64x128.Idx) := by
  rw [ix3_eq_valueIdx, ValueIdx.reshapeEquiv_ix3_1abc]
  refine funext fun x => Fin.ext ?_
  refine (ValueKit.rect_emb_unit_val _ _ _ _ _).trans ?_
  refine (congrArg (· + _) (congrFun (off1_eq c) x)).trans ?_
  match x with
  | ⟨0, _⟩ => exact Nat.add_zero _
  | ⟨1, _⟩ => exact Nat.zero_add _
  | ⟨2, _⟩ => exact congrArg (· + h.val) (Nat.mul_comm _ _)
  | ⟨3, _⟩ => exact Nat.zero_add _

theorem kat_at (j : Fin 1024) (h : Fin 8) (d : Fin 128) :
    kat m c (ix3 j h d) = m ((c : Thread nD τ).loc main_arg2) (ix4 (0 : Fin 1) j (Attention.headOf c h) d) :=
  congrArg (m ((c : Thread nD τ).loc main_arg2)) (slab_emb c j h d _)
theorem vat_at (j : Fin 1024) (h : Fin 8) (d : Fin 128) :
    vat m c (ix3 j h d) = m ((c : Thread nD τ).loc main_arg3) (ix4 (0 : Fin 1) j (Attention.headOf c h) d) :=
  congrArg (m ((c : Thread nD τ).loc main_arg3)) (slab_emb c j h d _)

theorem headR_emb (h : Fin 8) (j : Fin 1024) (d : Fin 128) : (headR h).emb (ix3 j (0 : Fin 1) d) = (ix3 j h d : S1024x8x128.Idx) := by
  refine funext fun x => Fin.ext ?_
  refine (ValueKit.rect_emb_unit_val _ _ _ _ _).trans ?_
  match x with
  | ⟨0, _⟩ => exact Nat.zero_add _
  | ⟨1, _⟩ => exact Nat.add_zero _
  | ⟨2, _⟩ => exact Nat.zero_add _

/-- Row `r` of row block `d`. -/
abbrev row128 (d : Fin 8) (r : Fin 128) : Fin 1024 := ⟨128 * d.val + r.val, by omega⟩

theorem rowsR_emb (d : Fin 8) (r : Fin 128) (n : Fin 1024) : (rowsR d).emb (ix2 r n) = (ix2 (row128 d r) n : S1024x1024.Idx) := by
  refine funext fun x => Fin.ext ?_
  refine (ValueKit.rect_emb_unit_val _ _ _ _ _).trans ?_
  match x with
  | ⟨0, _⟩ => rfl
  | ⟨1, _⟩ => exact Nat.zero_add _

theorem kHead_at (h : Fin 8) (j : Fin 1024) (d : Fin 128) :
    kHead m c h (ix3 j (0 : Fin 1) d) = m ((c : Thread nD τ).loc main_arg2) (ix4 (0 : Fin 1) j (Attention.headOf c h) d) :=
  (congrArg (kat m c) (headR_emb h j d)).trans (kat_at m c j h d)
theorem vHead_at (h : Fin 8) (j : Fin 1024) (d : Fin 128) :
    vHead m c h (ix3 j (0 : Fin 1) d) = m ((c : Thread nD τ).loc main_arg3) (ix4 (0 : Fin 1) j (Attention.headOf c h) d) :=
  (congrArg (vat m c) (headR_emb h j d)).trans (vat_at m c j h d)
theorem wHead_at (h : Fin 8) (d : Fin 128) (n : Fin 1024) :
    wHead m c h (ix2 d n) = m ((c : Thread nD τ).loc main_arg4) (ix2 (row128 h d) n) :=
  (congrArg (wostg m c) (rowsR_emb h d n)).trans (congrFun (wostg_eq m c) _)

/-- The input as a matrix, and the device's columns of the query weight. -/
abbrev xD (i e : Fin 1024) : EReal := m ((c : Thread nD τ).loc main_arg0) (ix3 (0 : Fin 1) i e)
abbrev wqD (e j : Fin 1024) : EReal := m ((c : Thread nD τ).loc main_arg1) (ix2 e j)

theorem qAll_at (i j : Fin 1024) :
    qAll m c (ix2 i j) = ∑ e : Fin 1024, xD m c i e * wqD m c e j := by
  unfold qAll
  rw [xstg_eq, wqstg_eq]
  pointwise [k0_pay1]
theorem qHead_at (h : Fin 8) (i : Fin 1024) (d : Fin 128) : qHead m c h (ix2 i d) = qAll m c (ix2 i (row128 h d)) := by
  pointwise [qHead]

end Cert.KernelIdealProof

end
-- ==== Proof.Totals.lean ====
/-
The result of every device, read at an index: the total of a row block is the sum of the eight devices' partial sums, in
whatever order the device adds them, and a row block received rounded holds the same values.
-/
module

public import proofs.«01_k».proof.Proof.Reads

@[expose] public section

noncomputable section

namespace Cert.KernelIdealProof

open Cert.KernelIdeal Cert.KernelIdeal.Gen
open Idealize.ShloMosaic Idealize.ShloMosaic.TcCoe

variable (m : (ℓ : Loc nD τ sig) → Buf (Elt Ideal) ℓ) (c : Dev nD)

/-- A device's own value and those of the seven others, by their distance, are all eight. -/
theorem sum_ring (A : Dev nD → EReal) :
    A c + A (up c 6) + A (up c 5) + A (up c 4) + A (up c 3) + A (up c 2) + A (up c 1) + A (up c 0) = ∑ d, A d := by
  have hu : ∀ (c : Fin 8) (s : Fin 7), up c s = c + s.succ := by decide
  rw [← Equiv.sum_comp (Equiv.addLeft (c : Fin 8)) A, Fin.sum_univ_eight]
  simp only [hu, Equiv.coe_addLeft]
  rw [show (c : Fin 8) + 0 = c from add_zero c]
  show A c + A (c + 7) + A (c + 6) + A (c + 5) + A (c + 4) + A (c + 3) + A (c + 2) + A (c + 1)
    = A c + A (c + 1) + A (c + 2) + A (c + 3) + A (c + 4) + A (c + 5) + A (c + 6) + A (c + 7)
  ac_rfl

/-- A device's partial sum as a matrix. -/
abbrev accD (i n : Fin 1024) : EReal := acc m c (ix2 i n)

theorem accR_eq_acc (i n : Fin 1024) : accR m c (ix2 i n) = acc m c (ix2 i n) := (accR_at m c i n).trans (acc_at m c i n).symm

theorem slotR_emb (s : Fin 7) (r : Fin 128) (n : Fin 1024) : (slotR s).emb (ix3 (0 : Fin 1) r n) = (ix3 s r n : S7x128x1024.Idx) := by
  rw [ix3_eq_valueIdx, ix3_eq_valueIdx]; exact slot_emb s r n

theorem rsRead_at (s : Fin 7) (r : Fin 128) (n : Fin 1024) :
    rsRead m c s (ix3 (0 : Fin 1) r n) = acc m (up c s) (ix2 (row128 c r) n) := by
  refine (congrArg (rsBuf m c) (slotR_emb s r n)).trans ?_
  refine Eq.trans ?_ (accR_eq_acc m (up c s) _ _)
  show accR m (up c s) ((rowsR c).emb (ValueIdx.ix2 r n)) = _
  rw [← ix2_eq_valueIdx, rowsR_emb]
theorem ownRows_at (r : Fin 128) (n : Fin 1024) : ownRows m c (ix2 r n) = acc m c (ix2 (row128 c r) n) := by
  refine congrArg (acc m c) (funext fun x => Fin.ext ?_)
  refine (ValueKit.rect_emb_unit_val _ _ _ _ _).trans ?_
  refine (congrArg (· + _) (congrFun (off3_eq c) x)).trans ?_
  match x with
  | ⟨0, _⟩ => rfl
  | ⟨1, _⟩ => exact Nat.zero_add _

/-- The total of device `c`'s row block. -/
theorem tot_at (r : Fin 128) (n : Fin 1024) : tot m c (ix3 (0 : Fin 1) r n) = ∑ d : Dev nD, accD m d (row128 c r) n := by
  pointwise [tot, k0_pay23, k0_pay22, tot7, k0_pay21, tot4, k0_pay20, k0_pay19]
  simp only [rsRead_at, ownRows_at]
  exact sum_ring c fun d => accD m d (row128 c r) n
theorem totR_at (r : Fin 128) (n : Fin 1024) : totR m c (ix2 r n) = ∑ d : Dev nD, accD m d (row128 c r) n := by
  refine Eq.trans ?_ (tot_at m c r n)
  pointwise [tot, totR, k0_pay23, k0_pay24]

theorem agRead_at (s : Fin 7) (r : Fin 128) (n : Fin 1024) :
    agRead m c s (ix3 (0 : Fin 1) r n) = ∑ d : Dev nD, accD m d (row128 (up c s) r) n := by
  refine (congrArg (agBuf m c) (slotR_emb s r n)).trans ?_
  show totR m (up c s) (ValueIdx.ix2 r n) = _
  rw [← ix2_eq_valueIdx, totR_at]

/-- Every row block of the result is that block's total. -/
theorem rowsOf_at (b : Dev nD) (r : Fin 128) (n : Fin 1024) : rowsOf m c b (ix3 (0 : Fin 1) r n) = ∑ d : Dev nD, accD m d (row128 b r) n := by
  by_cases h : b = c
  · subst h; rw [rowsOf_self, tot_at]
  · have hb := up_slotFrom c b h
    rw [← hb, rowsOf_up]
    pointwise [k0_pay25]
    rw [agRead_at]

theorem outAt_at (i n : Fin 1024) : outAt m c (ix3 (0 : Fin 1) i n) = ∑ d : Dev nD, accD m d i n := by
  show rowsOf m c (blockOf (ix3 (0 : Fin 1) i n)) (ValueIdx.ix3 (⟨0, Nat.one_pos⟩ : Fin 1) (rowIn (ix3 (0 : Fin 1) i n)) n) = _
  rw [← ix3_eq_valueIdx]
  refine (rowsOf_at m c _ _ _).trans ?_
  have hr : row128 (blockOf (ix3 (0 : Fin 1) i n : S1x1024x1024.Idx)) (rowIn (ix3 (0 : Fin 1) i n)) = i := Fin.ext (Nat.div_add_mod i.val 128)
  rw [hr]

end Cert.KernelIdealProof

end
-- ==== Proof.Reference.lean ====
/-
The reference's result: its composed term in named stages.
-/
module

public import proofs.«01_k».proof.Proof.Gen.ReferenceIdeal.Run
public import Idealize.ShloMosaic.Lib.Pointwise

@[expose] public section

noncomputable section

namespace Cert.ReferenceIdealProof

open Cert.ReferenceIdeal Cert.ReferenceIdeal.Gen
open Idealize.ShloMosaic Idealize.ShloMosaic.TcCoe

variable (m : (ℓ : Loc nD τ sig) → Buf (Elt Ideal) ℓ) (c : Dev nD)

/-- The mask. -/
def maskV : IVec S1024x1024 1 :=
  ori (cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
      (broadcastInDim S1024x1024 ![] bcast_S_S1024x1024 (constantI S_ 32 128#32)))
    (ori (broadcastInDim S1024x1024 ![0, 1] bcast_S1x1024_S1024x1024_0_1
        (cmpi .slt (broadcastInDim S1x1024 ![1] bcast_S1024_S1x1024_1 (iotaInDim S1024 32 0)) (broadcastInDim S1x1024 ![] bcast_S_S1x1024 (constantI S_ 32 32#32))))
      (broadcastInDim S1024x1024 ![0, 1] bcast_S1024x1_S1024x1024_0_1
        (cmpi .slt (broadcastInDim S1024x1 ![0] bcast_S1024_S1024x1_0 (iotaInDim S1024 32 0)) (broadcastInDim S1024x1 ![] bcast_S_S1024x1 (constantI S_ 32 32#32)))))

/-- Whether a row has a key at all. -/
def rowV : IVec S1024 1 := Host.reduce IntOp.ori maskV (constantI S_ 1 0#1) reducesTo_S1024x1024_S1024_d1 h_S_

/-- The queries. -/
def queriesV : FVec Ideal S1x1024x8192 .f32 :=
  Host.dotGeneral (φ₁ := .f32) (φ₂ := .f32) dot_S1x1024x1024_S1024x8192_S1x1024x8192_2_0_01_1_n_n none (m ((c.tc : Thread nD τ).loc main_arg0)) (m ((c.tc : Thread nD τ).loc main_arg1))

def scoresV : FVec Ideal S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 maskV))
    (mulf (Host.dotGeneral (φ₁ := .f32) (φ₂ := .f32) dot_S1x1024x64x128_S1x1024x64x128_S1x64x1024x1024_3_3_1_1_02_02 none
        (shapeCast _ (queriesV m c) shapeCasts_S1x1024x8192_S1x1024x64x128) (m ((c.tc : Thread nD τ).loc main_arg2)))
      (broadcastInDim S1x64x1024x1024 ![] bcast_S_S1x64x1024x1024 (constant S_ .f32 0x3DB504F3#32)))
    (broadcastInDim S1x64x1024x1024 ![] bcast_S_S1x64x1024x1024 (id (constant S_ .f32 0xCE6E6B28#32)))

def weightsV : FVec Ideal S1x64x1024x1024 .f32 :=
  Host.exp (subf (scoresV m c) (broadcastInDim S1x64x1024x1024 ![0, 1, 2, 3] bcast_S1x64x1024x1_S1x64x1024x1024_0_1_2_3 (broadcastInDim S1x64x1024x1 ![0, 1, 2] bcast_S1x64x1024_S1x64x1024x1_0_1_2
    (Host.reduce FloatOps.maximumf (scoresV m c) (constant S_ .f32 0xFF800000#32) reducesTo_S1x64x1024x1024_S1x64x1024_d3 h_S_))))

def probsV : FVec Ideal S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 rowV))
    (Host.divf (weightsV m c) (broadcastInDim S1x64x1024x1024 ![0, 1, 2, 3] bcast_S1x64x1024x1_S1x64x1024x1024_0_1_2_3
      (select (broadcastInDim S1x64x1024x1 ![0, 1, 2, 3] bcast_S1x1x1024x1_S1x64x1024x1_0_1_2_3 (broadcastInDim S1x1x1024x1 ![2] bcast_S1024_S1x1x1024x1_2 rowV))
        (broadcastInDim S1x64x1024x1 ![0, 1, 2] bcast_S1x64x1024_S1x64x1024x1_0_1_2
          (Host.reduceAdd (weightsV m c) (constant S_ .f32 0x00000000#32) reducesTo_S1x64x1024x1024_S1x64x1024_d3 h_S_))
        (broadcastInDim S1x64x1024x1 ![] bcast_S_S1x64x1024x1 (id (constant S_ .f32 0x3F800000#32))))))
    (broadcastInDim S1x64x1024x1024 ![] bcast_S_S1x64x1024x1024 (id (constant S_ .f32 0x00000000#32)))

def contextV : FVec Ideal S1x64x128x1024 .f32 :=
  Host.dotGeneral (φ₁ := .f32) (φ₂ := .f32) dot_S1x1024x64x128_S1x64x1024x1024_S1x64x128x1024_1_3_3_2_02_01 none (m ((c.tc : Thread nD τ).loc main_arg3)) (probsV m c)

def resultV : FVec Ideal S1x1024x1024 .f32 :=
  Host.dotGeneral (φ₁ := .f32) (φ₂ := .f32) dot_S1x1024x8192_S8192x1024_S1x1024x1024_2_0_01_1_n_n none
    (shapeCast _ (transpose S1x1024x64x128 [0, 3, 1, 2] (contextV m c) transposes_S1x64x128x1024_S1x1024x64x128_0_3_1_2) shapeCasts_S1x1024x64x128_S1x1024x8192)
    (m ((c.tc : Thread nD τ).loc main_arg4))

theorem result_eq : Value.res_main_v42 m c = resultV m c := by
  unfold Value.res_main_v42; rfl

end Cert.ReferenceIdealProof

end
-- ==== Proof.ReferenceAt.lean ====
/-
The reference's result: each stage (Proof/Reference.lean) read at an index.
-/
module

public import proofs.«01_k».proof.Proof.Reference
public import proofs.«01_k».proof.Proof.Attention

@[expose] public section

noncomputable section

namespace Cert.ReferenceIdealProof

open Cert.ReferenceIdeal Cert.ReferenceIdeal.Gen
open Idealize.ShloMosaic Idealize.ShloMosaic.TcCoe

variable (m : (ℓ : Loc nD τ sig) → Buf (Elt Ideal) ℓ) (c : Dev nD)

/-! ## The stages at an index -/

/-- The operands as matrices. -/
abbrev xA : Fin 1024 → Fin 1024 → EReal := fun i e => m ((c.tc : Thread nD τ).loc main_arg0) (ix3 (0 : Fin 1) i e)
abbrev wqA : Fin 1024 → Fin 8192 → EReal := fun e j => m ((c.tc : Thread nD τ).loc main_arg1) (ix2 e j)
abbrev kA : Fin 1024 → Fin 64 → Fin 128 → EReal := fun j g d => m ((c.tc : Thread nD τ).loc main_arg2) (ix4 (0 : Fin 1) j g d)
abbrev vA : Fin 1024 → Fin 64 → Fin 128 → EReal := fun j g d => m ((c.tc : Thread nD τ).loc main_arg3) (ix4 (0 : Fin 1) j g d)
abbrev woA : Fin 8192 → Fin 1024 → EReal := fun j n => m ((c.tc : Thread nD τ).loc main_arg4) (ix2 j n)

/-- The queries and the keys of head `g`. -/
abbrev qOf (g : Fin 64) : Fin 1024 → Fin 128 → EReal := fun i d => ∑ e, xA m c i e * wqA m c e (Attention.at128 g d)
abbrev kOf (g : Fin 64) : Fin 1024 → Fin 128 → EReal := fun j d => kA m c j g d

theorem maskV_at (i j : Fin 1024) : maskV (ix2 i j) = Attention.keepBit i j := by
  pointwise [maskV]
  exact (BitVec.or_assoc _ _ _).symm

theorem one_ori : ∀ b : BitVec 1, IntOp.ori 1#1 b = 1#1 := by decide

/-- Every row has a key: itself. -/
theorem rowV_at (i : Fin 1024) : rowV (ix1 i) = 1#1 := by
  pointwise [rowV]
  rw [← Finset.insert_erase (Finset.mem_univ i), Finset.fold_insert (Finset.notMem_erase _ _), maskV_at, Attention.keepBit_self]
  exact one_ori _

theorem queriesV_at (i : Fin 1024) (j : Fin 8192) : queriesV m c (ix3 0 i j) = ∑ e, xA m c i e * wqA m c e j := by
  pointwise [queriesV]

theorem scoresV_at (g : Fin 64) (i j : Fin 1024) : scoresV m c (ix4 0 g i j) = Attention.score (qOf m c g) (kOf m c g) i j := by
  pointwise [scoresV]
  simp only [maskV_at, queriesV_at]
  rfl

theorem weightsV_at (g : Fin 64) (i j : Fin 1024) : weightsV m c (ix4 0 g i j) = Attention.weight (qOf m c g) (kOf m c g) i j := by
  pointwise [weightsV]
  simp only [scoresV_at]
  rfl

theorem probsV_at (g : Fin 64) (i j : Fin 1024) : probsV m c (ix4 0 g i j) = Attention.share (qOf m c g) (kOf m c g) i j := by
  pointwise [probsV]
  simp only [rowV_at, weightsV_at]
  rfl

theorem contextV_at (g : Fin 64) (d : Fin 128) (i : Fin 1024) :
    contextV m c (ix4 0 g d i) = Attention.context (qOf m c g) (kOf m c g) (fun j d => vA m c j g d) i d := by
  pointwise [contextV]
  simp only [probsV_at]
  exact Finset.sum_congr rfl fun _ _ => mul_comm _ _

/-- The reference's result, element by element. -/
theorem resultV_at (i n : Fin 1024) :
    resultV m c (ix3 0 i n) = Attention.result (xA m c) (wqA m c) (kA m c) (vA m c) (woA m c) i n := by
  pointwise [resultV]
  simp only [contextV_at]
  refine (Fin.sum_univ_tiles 64 128 rfl _).trans (Finset.sum_congr rfl fun g _ => ?_)
  unfold Attention.part Attention.head
  refine Finset.sum_congr rfl fun d _ => ?_
  have h1 : (⟨(g.val * 128 + d.val) / 128, by omega⟩ : Fin 64) = g := Fin.ext (by show (g.val * 128 + d.val) / 128 = g.val; omega)
  have h2 : (⟨(g.val * 128 + d.val) % 128, by omega⟩ : Fin 128) = d := Fin.ext (by show (g.val * 128 + d.val) % 128 = d.val; omega)
  exact congrArg₂ (fun a b => Attention.context (qOf m c a) (kOf m c a) (fun j d => vA m c j a d) i b * woA m c (Attention.at128 g d) n) h1 h2

end Cert.ReferenceIdealProof

end
-- ==== Proof.Agreement.lean ====
/-
The kernel and the reference on operands that agree: a head of a device is the reference's share of that head, so a device's
result, the sum of all devices' heads, is the reference's.
-/
module

public import proofs.«01_k».proof.Defs
public import proofs.«01_k».proof.Proof.Totals
public import proofs.«01_k».proof.Proof.ReferenceAt
public import proofs.«01_k».proof.Proof.Launch

@[expose] public section

noncomputable section

namespace Cert.KernelIdealProof

open Cert.KernelIdeal Cert.KernelIdeal.Gen
open Idealize.ShloMosaic Idealize.ShloMosaic.TcCoe Idealize.SL.Sem

/-! ## The result array after the run -/

section
variable {F : FTy → Type} [FloatOps F] (m : (ℓ : Loc nD τ sig) → Buf (Elt F) ℓ) (ρ : Dev nD → PrngReg) (c : Dev nD)

/-- The result's one block is what the body left staged. -/
theorem final_block : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 (0 : Fin 1), if_pos rfl]
  exact View.read_write_univ _ _

/-- That block is the whole array. -/
theorem final_out : finalA m ρ c (3 : Fin 4) = outAt m c :=
  (Memref.read_access_unit_zero (Elt F) main_v1 (funext fun _ => Nat.zero_mul _) _ _).symm.trans (final_block m ρ c)
end

/-! ## Operands that agree -/

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Every device holds the reference's input, keys and values, and its own block of each of the two weights. -/
def Agree : Prop := ∀ c : Dev nD,
  m ((c.tc : Thread nD τ).loc main_arg0) = m' (((0 : Dev Cert.ReferenceIdeal.nD).tc : Thread _ Cert.ReferenceIdeal.τ).loc Cert.ReferenceIdeal.main_arg0)
  ∧ m ((c.tc : Thread nD τ).loc main_arg1)
    = Layout.block ⟨2, ![1024, 1024]⟩ ⟨2, ![1024, 8192]⟩ 1 8 c (m' (((0 : Dev Cert.ReferenceIdeal.nD).tc : Thread _ Cert.ReferenceIdeal.τ).loc Cert.ReferenceIdeal.main_arg1))
  ∧ m ((c.tc : Thread nD τ).loc main_arg2) = m' (((0 : Dev Cert.ReferenceIdeal.nD).tc : Thread _ Cert.ReferenceIdeal.τ).loc Cert.ReferenceIdeal.main_arg2)
  ∧ m ((c.tc : Thread nD τ).loc main_arg3) = m' (((0 : Dev Cert.ReferenceIdeal.nD).tc : Thread _ Cert.ReferenceIdeal.τ).loc Cert.ReferenceIdeal.main_arg3)
  ∧ m ((c.tc : Thread nD τ).loc main_arg4)
    = Layout.block ⟨2, ![1024, 1024]⟩ ⟨2, ![8192, 1024]⟩ 0 8 c (m' (((0 : Dev Cert.ReferenceIdeal.nD).tc : Thread _ Cert.ReferenceIdeal.τ).loc Cert.ReferenceIdeal.main_arg4))

variable {m m'} (ha : Agree m m') (c : Dev nD)
include ha

open Cert.ReferenceIdealProof (xA wqA kA vA woA)

/-- A head's 128 columns of the device's block of the query weight are the head's columns of the whole. -/
theorem wq_agree (h : Fin 8) (e : Fin 1024) (d : Fin 128) :
    wqD m c e (row128 h d) = wqA m' 0 e (Attention.at128 (Attention.headOf c h) d) := by
  refine (congrFun (ha c).2.1 _).trans (congrArg (m' _) (funext fun x => Fin.ext ?_))
  match x with
  | ⟨0, _⟩ => exact (Layout.idx_cols_val _ c _).1
  | ⟨1, _⟩ => exact (Layout.idx_cols_val _ c _).2.trans (by show c.val * 1024 + (128 * h.val + d.val) = (c.val * 8 + h.val) * 128 + d.val; omega)
/-- And its 128 rows of the device's block of the output weight, the head's rows of the whole. -/
theorem wo_agree (h : Fin 8) (d : Fin 128) (n : Fin 1024) :
    m ((c : Thread nD τ).loc main_arg4) (ix2 (row128 h d) n) = woA m' 0 (Attention.at128 (Attention.headOf c h) d) n := by
  refine (congrFun (ha c).2.2.2.2 _).trans (congrArg (m' _) (funext fun x => Fin.ext ?_))
  match x with
  | ⟨0, _⟩ => exact (Layout.idx_rows_val _ c _).1.trans (by show c.val * 1024 + (128 * h.val + d.val) = (c.val * 8 + h.val) * 128 + d.val; omega)
  | ⟨1, _⟩ => exact (Layout.idx_rows_val _ c _).2

/-- A device's head is the reference's share of it. -/
theorem head_agree (h : Fin 8) (i n : Fin 1024) :
    headAt m c h (ix2 i n) = Attention.part (xA m' 0) (wqA m' 0) (kA m' 0) (vA m' 0) (woA m' 0) (Attention.headOf c h) i n := by
  refine (headV_at _ _ _ _ i n).trans ?_
  have hq : qM (qHead m c h) = fun i d => ∑ e, xA m' 0 i e * wqA m' 0 e (Attention.at128 (Attention.headOf c h) d) :=
    funext fun i => funext fun d => (qHead_at m c h i d).trans ((qAll_at m c i _).trans
      (Finset.sum_congr rfl fun e _ => congrArg₂ (· * ·) (congrFun (ha c).1 _) (wq_agree ha c h e d)))
  have hk : slabM (kHead m c h) = fun j d => kA m' 0 j (Attention.headOf c h) d :=
    funext fun j => funext fun d => (kHead_at m c h j d).trans (congrFun (ha c).2.2.1 _)
  have hv : slabM (vHead m c h) = fun j d => vA m' 0 j (Attention.headOf c h) d :=
    funext fun j => funext fun d => (vHead_at m c h j d).trans (congrFun (ha c).2.2.2.1 _)
  have hw : (fun (d : Fin 128) (n : Fin 1024) => (wHead m c h (ix2 d n) : EReal)) = fun d n => woA m' 0 (Attention.at128 (Attention.headOf c h) d) n :=
    funext fun d => funext fun n => (wHead_at m c h d n).trans (wo_agree ha c h d n)
  exact (congrArg (fun q => Attention.head q _ _ _ i n) hq).trans ((congrArg (fun k => Attention.head _ k _ _ i n) hk).trans
    ((congrArg (fun v => Attention.head _ _ v _ i n) hv).trans (congrArg (fun w => Attention.head _ _ _ w i n) hw)))

/-- A device's partial sum is the reference's share of its eight heads. -/
theorem acc_agree (i n : Fin 1024) :
    accD m c i n = ∑ h : Fin 8, Attention.part (xA m' 0) (wqA m' 0) (kA m' 0) (vA m' 0) (woA m' 0) (Attention.headOf c h) i n :=
  Eq.trans (α := EReal) (acc_at m c i n) (Finset.sum_congr (M := EReal) rfl fun h _ => head_agree ha c h i n)

theorem out_agree_at (i n : Fin 1024) :
    outAt m c (ix3 (0 : Fin 1) i n) = Attention.result (xA m' 0) (wqA m' 0) (kA m' 0) (vA m' 0) (woA m' 0) i n := by
  rw [outAt_at, Attention.result_devices]
  exact Finset.sum_congr (M := EReal) rfl fun d _ => acc_agree ha d i n

/-- Every device's result is the reference's. -/
theorem out_agree : outAt m c = Cert.ReferenceIdeal.Value.res_main_v42 m' 0 := by
  rw [Cert.ReferenceIdealProof.result_eq]
  refine funext fun i => ?_
  have hi : i = ix3 (0 : Fin 1) (i 1) (i 2) := by
    refine funext fun x => ?_
    match x with
    | ⟨0, _⟩ => exact Subsingleton.elim (α := Fin 1) _ _
    | ⟨1, _⟩ => rfl
    | ⟨2, _⟩ => rfl
  rw [hi]
  exact (out_agree_at ha c _ _).trans (Cert.ReferenceIdealProof.resultV_at m' 0 _ _).symm

omit ha in
/-- The kernel's idealization computes the reference's result on every device, both leaving their operands. -/
theorem algebraic : Cert.algebraic_KernelIdeal_ReferenceIdeal := by
  intro m ρ m' ρ' _ ha
  refine ⟨Cert.ReferenceIdeal.Value.res_main_v42 m' 0, ?_, ?_⟩
  · exact (θ_run defs _ _).mono (fun r h c => ⟨((h.1 c).1 (3 : Fin 4)).trans ((final_out m ρ c).trans (out_agree ha c)),
      ((h.1 c).1 (0 : Fin 4)).trans (final_arg0 m ρ c), ((h.1 c).1 (1 : Fin 4)).trans (final_arg1 m ρ c),
      (h.1 c).2.2.1, (h.1 c).2.2.2, ((h.1 c).1 (2 : Fin 4)).trans (final_arg4 m ρ c)⟩) (run_main m ρ)
  · exact (θ_run Cert.ReferenceIdeal.defs _ _).mono (fun _ h => h 0) (Cert.ReferenceIdeal.Value.run (F := Ideal) m' ρ')

end Cert.KernelIdealProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Agreement
public import Idealize.ShloMosaic.Adequacy
public import Idealize.ShloMosaic.Init

@[expose] public section

noncomputable section

namespace Cert.Proof

open Idealize.ShloMosaic Idealize.SL.Sem

/-! ## The program as printed is its idealization -/

section
attribute [local instance] Cert.Kernel.Gen.facts Cert.KernelIdeal.Gen.facts

variable {F : FTy → Type} [FloatOps F]

/-- The kernel's one function is the same in both. -/
theorem defs₀_eq : Cert.Kernel.defs₀ (F := F) = Cert.KernelIdeal.defs₀ (F := F) := by
  refine congrArg Defs.onTc (funext fun l => funext fun a => ?_)
  match l, a with
  | ⟨0, _⟩, (t, s) => rfl
  | ⟨n + 1, h⟩, _ => exact absurd h (Nat.not_lt.2 (Nat.le_add_left _ _))
theorem defs_eq : Cert.Kernel.defs (F := F) = Cert.KernelIdeal.defs (F := F) :=
  congrArg (Pipeline.defs (Cert.KernelIdeal.pcfgs (F := F))) defs₀_eq
theorem main_eq : Cert.Kernel.main (F := F) = Cert.KernelIdeal.main (F := F) := rfl
end

/-! ## The claims -/

/-- The kernel as printed: the run's frame. -/
theorem frame_kernel : Cert.quiescent_Kernel (hKernel := Cert.Kernel.Gen.facts) := fun m ρ _ => by
  rw [defs_eq, main_eq]
  exact Cert.KernelIdealProof.run_frame m ρ
/-- Its idealization: the same. -/
theorem frame_ideal : Cert.quiescent_KernelIdeal := fun m ρ _ => Cert.KernelIdealProof.run_frame m ρ
/-- The reference: its run read at the arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.KernelIdealProof.algebraic⟩

end Cert.Proof

end
